-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S4096 : Shape := ⟨1, ![4096]⟩
abbrev S4096x100 : Shape := ⟨2, ![4096, 100]⟩
abbrev S4096x512 : Shape := ⟨2, ![4096, 512]⟩
abbrev S_ : Shape := ⟨0, ![]⟩
abbrev S100x1 : Shape := ⟨2, ![100, 1]⟩
abbrev S100x512 : Shape := ⟨2, ![100, 512]⟩
abbrev S100 : Shape := ⟨1, ![100]⟩
abbrev S4096x1 : Shape := ⟨2, ![4096, 1]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x100 : S_.BroadcastsInDim S4096x100 (![] : Fin 0 → Fin S4096x100.rank)
  reducesTo_S4096x100_S_d0_1 : S4096x100.ReducesTo [0, 1] S_
  bcast_S_S100x1 : S_.BroadcastsInDim S100x1 (![] : Fin 0 → Fin S100x1.rank)
  reducesTo_S100x1_S_d0_1 : S100x1.ReducesTo [0, 1] S_
  reducesTo_S4096x100_S4096_d1 : S4096x100.ReducesTo [1] S4096
  bcast_S4096_S4096x1_0 : S4096.BroadcastsInDim S4096x1 (![0] : Fin 1 → Fin S4096x1.rank)
  bcast_S4096x1_S4096x100_0_1 : S4096x1.BroadcastsInDim S4096x100 (![0, 1] : Fin 2 → Fin S4096x100.rank)
  natLt_1_32 : 1 < 32
  reducesTo_S100_S_d0 : S100.ReducesTo [0] S_
  reducesTo_S4096x512_S4096_d1 : S4096x512.ReducesTo [1] S4096
  reducesTo_S100x512_S100_d1 : S100x512.ReducesTo [1] S100
  bcast_S_S100 : S_.BroadcastsInDim S100 (![] : Fin 0 → Fin S100.rank)

variable [Facts]

def fn_part3 {F : FTy → Type} [FloatOps F] (main_v45 : IVec S_ 1) (main_v49 : IVec S_ 1) : IVec S_ 1 :=
  let main_v50 : IVec S_ 1 := andi main_v49 main_v45
  main_v50

def fn_part2 {F : FTy → Type} [FloatOps F] (main_arg3 : FVec F S4096x512 .f32) (main_arg8 : FVec F S100x512 .f32) (main_arg10 : IVec S100 32) (main_v5 : IVec S_ 1) (main_v19 : IVec S_ 1) (main_v28 : IVec S_ 1) (main_v31 : IVec S_ 1) (main_v32 : IVec S100 32) : IVec S_ 1 :=
  let main_v33 : IVec S100 1 := cmpi .eq main_arg10 main_v32
  let main_c_13 : IVec S_ 1 := constantI S_ 1 1#1
  let main_v34 : IVec S_ 1 := (fun x v => Host.reduce IntOp.andi x v reducesTo_S100_S_d0 h_S_) main_v33 main_c_13
  let main_v35 : FVec F S4096x512 .f32 := mulf main_arg3 main_arg3
  let main_cst_14 : FVec F S_ .f32 := constant S_ .f32 0x00000000#32
  let main_v36 : FVec F S4096 .f32 := (fun x v => Host.reduceAdd x v reducesTo_S4096x512_S4096_d1 h_S_) main_v35 main_cst_14
  let main_cst_15 : FVec F S_ .f32 := constant S_ .f32 0x00000000#32
  let main_v37 : FVec F S4096 .f32 := broadcastInDim S4096 ![] bcast_S_S4096 main_cst_15
  let main_v38 : IVec S4096 1 := cmpf .ogt main_v36 main_v37
  let main_c_16 : IVec S_ 1 := constantI S_ 1 1#1
  let main_v39 : IVec S_ 1 := (fun x v => Host.reduce IntOp.andi x v reducesTo_S4096_S_d0 h_S_) main_v38 main_c_16
  let main_v40 : FVec F S100x512 .f32 := mulf main_arg8 main_arg8
  let main_cst_17 : FVec F S_ .f32 := constant S_ .f32 0x00000000#32
  let main_v41 : FVec F S100 .f32 := (fun x v => Host.reduceAdd x v reducesTo_S100x512_S100_d1 h_S_) main_v40 main_cst_17
  let main_cst_18 : FVec F S_ .f32 := constant S_ .f32 0x00000000#32
  let main_v42 : FVec F S100 .f32 := broadcastInDim S100 ![] bcast_S_S100 main_cst_18
  let main_v43 : IVec S100 1 := cmpf .ogt main_v41 main_v42
  let main_c_19 : IVec S_ 1 := constantI S_ 1 1#1
  let main_v44 : IVec S_ 1 := (fun x v => Host.reduce IntOp.andi x v reducesTo_S100_S_d0 h_S_) main_v43 main_c_19
  let main_v45 : IVec S_ 1 := andi main_v39 main_v44
  let main_v46 : IVec S_ 1 := andi main_v5 main_v19
  let main_v47 : IVec S_ 1 := andi main_v46 main_v28
  let main_v48 : IVec S_ 1 := andi main_v47 main_v31
  let main_v49 : IVec S_ 1 := andi main_v48 main_v34
  fn_part3 (F := F) main_v45 main_v49

def fn_part1 {F : FTy → Type} [FloatOps F] (main_arg1 : FVec F S4096x100 .f32) (main_arg3 : FVec F S4096x512 .f32) (main_arg8 : FVec F S100x512 .f32) (main_arg9 : FVec F S100x1 .f32) (main_arg10 : IVec S100 32) (main_v5 : IVec S_ 1) (main_v14 : IVec S_ 1) (main_v15 : FVec F S100x1 .f32) (main_cst_5 : FVec F S_ .f32) : IVec S_ 1 :=
  let main_v16 : FVec F S100x1 .f32 := broadcastInDim S100x1 ![] bcast_S_S100x1 main_cst_5
  let main_v17 : IVec S100x1 1 := cmpf .olt main_v15 main_v16
  let main_c_6 : IVec S_ 1 := constantI S_ 1 1#1
  let main_v18 : IVec S_ 1 := (fun x v => Host.reduce IntOp.andi x v reducesTo_S100x1_S_d0_1 h_S_) main_v17 main_c_6
  let main_v19 : IVec S_ 1 := andi main_v14 main_v18
  let main_cst_7 : FVec F S_ .f32 := constant S_ .f32 0xFF800000#32
  let main_v20 : FVec F S4096 .f32 := (fun x v => Host.reduce FloatOps.maximumf x v reducesTo_S4096x100_S4096_d1 h_S_) main_arg1 main_cst_7
  let main_v21 : FVec F S4096x1 .f32 := broadcastInDim S4096x1 ![0] bcast_S4096_S4096x1_0 main_v20
  let main_v22 : FVec F S4096x100 .f32 := broadcastInDim S4096x100 ![0, 1] bcast_S4096x1_S4096x100_0_1 main_v21
  let main_v23 : IVec S4096x100 1 := cmpf .oeq main_arg1 main_v22
  let main_v24 : IVec S4096x100 32 := (extui 32 · natLt_1_32) main_v23
  let main_c_8 : IVec S_ 32 := constantI S_ 32 0#32
  let main_v25 : IVec S4096 32 := (fun x v => Host.reduce IntOp.addi x v reducesTo_S4096x100_S4096_d1 h_S_) main_v24 main_c_8
  let main_c_9 : IVec S_ 32 := constantI S_ 32 1#32
  let main_v26 : IVec S4096 32 := broadcastInDim S4096 ![] bcast_S_S4096 main_c_9
  let main_v27 : IVec S4096 1 := cmpi .eq main_v25 main_v26
  let main_c_10 : IVec S_ 1 := constantI S_ 1 1#1
  let main_v28 : IVec S_ 1 := (fun x v => Host.reduce IntOp.andi x v reducesTo_S4096_S_d0 h_S_) main_v27 main_c_10
  let main_cst_11 : FVec F S_ .f32 := constant S_ .f32 0x00000000#32
  let main_v29 : FVec F S100x1 .f32 := broadcastInDim S100x1 ![] bcast_S_S100x1 main_cst_11
  let main_v30 : IVec S100x1 1 := cmpf .oeq main_arg9 main_v29
  let main_c_12 : IVec S_ 1 := constantI S_ 1 1#1
  let main_v31 : IVec S_ 1 := (fun x v => Host.reduce IntOp.andi x v reducesTo_S100x1_S_d0_1 h_S_) main_v30 main_c_12
  let main_v32 : IVec S100 32 := iotaInDim S100 32 0
  fn_part2 (F := F) main_arg3 main_arg8 main_arg10 main_v5 main_v19 main_v28 main_v31 main_v32

def fn {F : FTy → Type} [FloatOps F] (main_arg0 : IVec S4096 32) (main_arg1 : FVec F S4096x100 .f32) (main_arg2 : FVec F S4096x100 .f32) (main_arg3 : FVec F S4096x512 .f32) (main_arg4 : IVec S_ 32) (main_arg5 : IVec S_ 32) (main_arg6 : IVec S_ 32) (main_arg7 : FVec F S100x1 .f32) (main_arg8 : FVec F S100x512 .f32) (main_arg9 : FVec F S100x1 .f32) (main_arg10 : IVec S100 32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 32 := constantI S_ 32 100#32
  let main_v2 : IVec S4096 32 := broadcastInDim S4096 ![] bcast_S_S4096 main_c_0
  let main_v3 : IVec S4096 1 := cmpi .slt main_arg0 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_v6 : FVec F S4096x100 .f32 := Host.absf main_arg1
  let main_cst : FVec F S_ .f32 := constant S_ .f32 0x7F800000#32
  let main_v7 : FVec F S4096x100 .f32 := broadcastInDim S4096x100 ![] bcast_S_S4096x100 main_cst
  let main_v8 : IVec S4096x100 1 := cmpf .olt main_v6 main_v7
  let main_c_2 : IVec S_ 1 := constantI S_ 1 1#1
  let main_v9 : IVec S_ 1 := (fun x v => Host.reduce IntOp.andi x v reducesTo_S4096x100_S_d0_1 h_S_) main_v8 main_c_2
  let main_v10 : FVec F S4096x100 .f32 := Host.absf main_arg2
  let main_cst_3 : FVec F S_ .f32 := constant S_ .f32 0x7F800000#32
  let main_v11 : FVec F S4096x100 .f32 := broadcastInDim S4096x100 ![] bcast_S_S4096x100 main_cst_3
  let main_v12 : IVec S4096x100 1 := cmpf .olt main_v10 main_v11
  let main_c_4 : IVec S_ 1 := constantI S_ 1 1#1
  let main_v13 : IVec S_ 1 := (fun x v => Host.reduce IntOp.andi x v reducesTo_S4096x100_S_d0_1 h_S_) main_v12 main_c_4
  let main_v14 : IVec S_ 1 := andi main_v9 main_v13
  let main_v15 : FVec F S100x1 .f32 := Host.absf main_arg7
  let main_cst_5 : FVec F S_ .f32 := constant S_ .f32 0x7F800000#32
  fn_part1 (F := F) main_arg1 main_arg3 main_arg8 main_arg9 main_arg10 main_v5 main_v14 main_v15 main_cst_5
-- ==== Kernel.lean ====
abbrev S4096 : Shape := ⟨1, ![4096]⟩
abbrev S4096x100 : Shape := ⟨2, ![4096, 100]⟩
abbrev S4096x512 : Shape := ⟨2, ![4096, 512]⟩
abbrev S_ : Shape := ⟨0, ![]⟩
abbrev S100x1 : Shape := ⟨2, ![100, 1]⟩
abbrev S100x512 : Shape := ⟨2, ![100, 512]⟩
abbrev S100 : Shape := ⟨1, ![100]⟩
abbrev S4096x1 : Shape := ⟨2, ![4096, 1]⟩
abbrev S1x1 : Shape := ⟨2, ![1, 1]⟩
abbrev S1024x1 : Shape := ⟨2, ![1024, 1]⟩
abbrev S1024x100 : Shape := ⟨2, ![1024, 100]⟩
abbrev S1024x512 : Shape := ⟨2, ![1024, 512]⟩
abbrev S1x128 : Shape := ⟨2, ![1, 128]⟩
abbrev S1x100 : Shape := ⟨2, ![1, 100]⟩
abbrev S1x1024 : Shape := ⟨2, ![1, 1024]⟩
abbrev S1x512 : Shape := ⟨2, ![1, 512]⟩
abbrev S1024 : Shape := ⟨1, ![1024]⟩
abbrev S8x128 : Shape := ⟨2, ![8, 128]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 14
  | .vmem => 19
  | .smem => 0
  | _ => 0

abbrev bufTy : (tb : Table) → Fin (tcTables nBuf tb) → BufTy
  | .hbm, ⟨0, _⟩ => ⟨S4096, .i32⟩
  | .hbm, ⟨1, _⟩ => ⟨S4096x100, .f32⟩
  | .hbm, ⟨2, _⟩ => ⟨S4096x100, .f32⟩
  | .hbm, ⟨3, _⟩ => ⟨S4096x512, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S100x1, .f32⟩
  | .hbm, ⟨8, _⟩ => ⟨S100x512, .f32⟩
  | .hbm, ⟨9, _⟩ => ⟨S100x1, .f32⟩
  | .hbm, ⟨10, _⟩ => ⟨S100, .i32⟩
  | .hbm, ⟨11, _⟩ => ⟨S4096x1, .i32⟩
  | .hbm, ⟨12, _⟩ => ⟨S1x1, .f32⟩
  | .hbm, ⟨13, _⟩ => ⟨S_, .f32⟩
  | .local _ .vmem, ⟨0, _⟩ => ⟨S1024x1, .i32⟩
  | .local _ .vmem, ⟨1, _⟩ => ⟨S1024x1, .i32⟩
  | .local _ .vmem, ⟨2, _⟩ => ⟨S1024x100, .f32⟩
  | .local _ .vmem, ⟨3, _⟩ => ⟨S1024x100, .f32⟩
  | .local _ .vmem, ⟨4, _⟩ => ⟨S1024x100, .f32⟩
  | .local _ .vmem, ⟨5, _⟩ => ⟨S1024x100, .f32⟩
  | .local _ .vmem, ⟨6, _⟩ => ⟨S1024x512, .f32⟩
  | .local _ .vmem, ⟨7, _⟩ => ⟨S1024x512, .f32⟩
  | .local _ .vmem, ⟨8, _⟩ => ⟨S100x1, .f32⟩
  | .local _ .vmem, ⟨9, _⟩ => ⟨S100x512, .f32⟩
  | .local _ .vmem, ⟨10, _⟩ => ⟨S1x1, .f32⟩
  | .local _ .vmem, ⟨11, _⟩ => ⟨S100x512, .f32⟩
  | .local _ .vmem, ⟨12, _⟩ => ⟨S1x128, .f32⟩
  | .local _ .vmem, ⟨13, _⟩ => ⟨S1x128, .f32⟩
  | .local _ .vmem, ⟨14, _⟩ => ⟨S1x100, .f32⟩
  | .local _ .vmem, ⟨15, _⟩ => ⟨S1x100, .f32⟩
  | .local _ .vmem, ⟨16, _⟩ => ⟨S1x100, .f32⟩
  | .local _ .vmem, ⟨17, _⟩ => ⟨S1x100, .f32⟩
  | .local _ .vmem, ⟨18, _⟩ => ⟨S1x100, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v118 : BitVec 1 := Scalar.cmpi .eq arg0 c3_i32
  let v119 : BitVec 32 := Scalar.extui v118
  let c0_i32_61 : BitVec 32 := 0#32
  let v120 : BitVec 1 := Scalar.cmpi .ne v119 c0_i32_61
  v120

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S100x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096 : Shape := ⟨1, ![4096]⟩
abbrev S4096x100 : Shape := ⟨2, ![4096, 100]⟩
abbrev S4096x512 : Shape := ⟨2, ![4096, 512]⟩
abbrev S_ : Shape := ⟨0, ![]⟩
abbrev S100x1 : Shape := ⟨2, ![100, 1]⟩
abbrev S100x512 : Shape := ⟨2, ![100, 512]⟩
abbrev S100 : Shape := ⟨1, ![100]⟩
abbrev S4096x1 : Shape := ⟨2, ![4096, 1]⟩
abbrev S512x100 : Shape := ⟨2, ![512, 100]⟩
abbrev S1x100 : Shape := ⟨2, ![1, 100]⟩
abbrev S1 : Shape := ⟨1, ![1]⟩

abbrev nBuf : Space → Nat
  | .hbm => 212
  | .vmem => 0
  | .smem => 0
  | _ => 0

abbrev hbmTy0_0 (i : Nat) : BufTy := match i % 128 with
  | 0 => ⟨S4096, .i32⟩
  | 1 => ⟨S4096x100, .f32⟩
  | 2 => ⟨S4096x100, .f32⟩
  | 3 => ⟨S4096x512, .f32⟩
  | 4 => ⟨S_, .i32⟩
  | 5 => ⟨S_, .i32⟩
  | 6 => ⟨S_, .i32⟩
  | 7 => ⟨S100x1, .f32⟩
  | 8 => ⟨S100x512, .f32⟩
  | 9 => ⟨S100x1, .f32⟩
  | 10 => ⟨S100, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S4096x1, .i32⟩
  | 19 => ⟨S4096x1, .f32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S4096, .i32⟩
  | 27 => ⟨S4096x1, .i32⟩
  | 28 => ⟨S4096x1, .f32⟩
  | 29 => ⟨S_, .f32⟩
  | 30 => ⟨S100x512, .f32⟩
  | 31 => ⟨S100x1, .i32⟩
  | 32 => ⟨S100x512, .f32⟩
  | 33 => ⟨S_, .f32⟩
  | 34 => ⟨S100, .f32⟩
  | 35 => ⟨S_, .f32⟩
  | 36 => ⟨S100, .f32⟩
  | 37 => ⟨S100x1, .i32⟩
  | 38 => ⟨S100, .f32⟩
  | 39 => ⟨S100x1, .f32⟩
  | 40 => ⟨S100x512, .f32⟩
  | 41 => ⟨S100x512, .f32⟩
  | 42 => ⟨S100x512, .f32⟩
  | 43 => ⟨S_, .f32⟩
  | 44 => ⟨S100, .f32⟩
  | 45 => ⟨S100x1, .f32⟩
  | 46 => ⟨S100x1, .f32⟩
  | 47 => ⟨S100x512, .f32⟩
  | 48 => ⟨S100x512, .f32⟩
  | 49 => ⟨S512x100, .f32⟩
  | 50 => ⟨S_, .f32⟩
  | 51 => ⟨S4096, .f32⟩
  | 52 => ⟨S_, .f32⟩
  | 53 => ⟨S4096, .f32⟩
  | 54 => ⟨S4096, .f32⟩
  | 55 => ⟨S4096x1, .f32⟩
  | 56 => ⟨S4096x100, .f32⟩
  | 57 => ⟨S4096x100, .f32⟩
  | 58 => ⟨S4096x100, .f32⟩
  | 59 => ⟨S_, .f32⟩
  | 60 => ⟨S4096, .f32⟩
  | 61 => ⟨S4096x1, .f32⟩
  | 62 => ⟨S4096x100, .f32⟩
  | 63 => ⟨S4096x100, .f32⟩
  | 64 => ⟨S4096x512, .f32⟩
  | 65 => ⟨S_, .f32⟩
  | 66 => ⟨S4096, .f32⟩
  | 67 => ⟨S4096x1, .f32⟩
  | 68 => ⟨S4096x1, .f32⟩
  | 69 => ⟨S4096x512, .f32⟩
  | 70 => ⟨S4096x512, .f32⟩
  | 71 => ⟨S4096x100, .f32⟩
  | 72 => ⟨S4096x100, .f32⟩
  | 73 => ⟨S_, .f32⟩
  | 74 => ⟨S4096x100, .f32⟩
  | 75 => ⟨S4096x100, .i1⟩
  | 76 => ⟨S4096x100, .f32⟩
  | 77 => ⟨S4096x100, .f32⟩
  | 78 => ⟨S4096x100, .f32⟩
  | 79 => ⟨S4096x100, .f32⟩
  | 80 => ⟨S_, .f32⟩
  | 81 => ⟨S4096x1, .f32⟩
  | 82 => ⟨S4096x1, .f32⟩
  | 83 => ⟨S4096x100, .f32⟩
  | 84 => ⟨S4096x100, .f32⟩
  | 85 => ⟨S4096x100, .f32⟩
  | 86 => ⟨S_, .f32⟩
  | 87 => ⟨S_, .f32⟩
  | 88 => ⟨S_, .f32⟩
  | 89 => ⟨S4096x100, .f32⟩
  | 90 => ⟨S4096x100, .f32⟩
  | 91 => ⟨S_, .f32⟩
  | 92 => ⟨S4096x100, .f32⟩
  | 93 => ⟨S4096x100, .f32⟩
  | 94 => ⟨S4096x100, .f32⟩
  | 95 => ⟨S4096x100, .f32⟩
  | 96 => ⟨S_, .f32⟩
  | 97 => ⟨S4096, .f32⟩
  | 98 => ⟨S4096, .f32⟩
  | 99 => ⟨S_, .f32⟩
  | 100 => ⟨S_, .f32⟩
  | 101 => ⟨S_, .f32⟩
  | 102 => ⟨S_, .f32⟩
  | 103 => ⟨S_, .f32⟩
  | 104 => ⟨S4096, .f32⟩
  | 105 => ⟨S4096x1, .f32⟩
  | 106 => ⟨S100, .i32⟩
  | 107 => ⟨S1x100, .i32⟩
  | 108 => ⟨S4096x100, .f32⟩
  | 109 => ⟨S4096x100, .i1⟩
  | 110 => ⟨S_, .i32⟩
  | 111 => ⟨S_, .i32⟩
  | 112 => ⟨S4096x100, .i32⟩
  | 113 => ⟨S4096x100, .i32⟩
  | 114 => ⟨S4096x100, .i32⟩
  | 115 => ⟨S_, .i32⟩
  | 116 => ⟨S4096, .i32⟩
  | 117 => ⟨S4096x1, .i32⟩
  | 118 => ⟨S1x100, .i32⟩
  | 119 => ⟨S4096x100, .i32⟩
  | 120 => ⟨S4096x100, .i32⟩
  | 121 => ⟨S4096x100, .i1⟩
  | 122 => ⟨S4096x100, .f32⟩
  | 123 => ⟨S4096x100, .f32⟩
  | 124 => ⟨S4096x100, .f32⟩
  | 125 => ⟨S4096x100, .f32⟩
  | 126 => ⟨S4096x100, .f32⟩
  | 127 => ⟨S4096x100, .f32⟩
  | _ => ⟨S4096, .i32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S4096x100, .f32⟩
  | 6 => ⟨S_, .f32⟩
  | 7 => ⟨S4096, .f32⟩
  | 8 => ⟨S_, .f32⟩
  | 9 => ⟨S_, .f32⟩
  | 10 => ⟨S_, .f32⟩
  | 11 => ⟨S_, .f32⟩
  | 12 => ⟨S1, .f32⟩
  | 13 => ⟨S4096, .f32⟩
  | 14 => ⟨S4096, .f32⟩
  | 15 => ⟨S4096, .f32⟩
  | 16 => ⟨S_, .f32⟩
  | 17 => ⟨S_, .f32⟩
  | 18 => ⟨S1, .f32⟩
  | 19 => ⟨S1, .f32⟩
  | 20 => ⟨S4096, .f32⟩
  | 21 => ⟨S4096, .f32⟩
  | 22 => ⟨S_, .i32⟩
  | 23 => ⟨S4096, .i32⟩
  | 24 => ⟨S4096, .i1⟩
  | 25 => ⟨S_, .i32⟩
  | 26 => ⟨S4096, .i32⟩
  | 27 => ⟨S4096, .i32⟩
  | 28 => ⟨S4096, .i32⟩
  | 29 => ⟨S4096x1, .i32⟩
  | 30 => ⟨S4096x1, .f32⟩
  | 31 => ⟨S4096, .f32⟩
  | 32 => ⟨S4096, .f32⟩
  | 33 => ⟨S_, .f32⟩
  | 34 => ⟨S_, .f32⟩
  | 35 => ⟨S_, .f32⟩
  | 36 => ⟨S_, .f32⟩
  | 37 => ⟨S1, .f32⟩
  | 38 => ⟨S4096, .f32⟩
  | 39 => ⟨S4096, .f32⟩
  | 40 => ⟨S4096, .f32⟩
  | 41 => ⟨S_, .f32⟩
  | 42 => ⟨S_, .f32⟩
  | 43 => ⟨S1, .f32⟩
  | 44 => ⟨S4096, .f32⟩
  | 45 => ⟨S4096, .f32⟩
  | 46 => ⟨S4096, .f32⟩
  | 47 => ⟨S4096, .f32⟩
  | 48 => ⟨S4096, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S100, .f32⟩
  | 56 => ⟨S_, .f32⟩
  | 57 => ⟨S100, .f32⟩
  | 58 => ⟨S100, .f32⟩
  | 59 => ⟨S_, .f32⟩
  | 60 => ⟨S100, .f32⟩
  | 61 => ⟨S_, .f32⟩
  | 62 => ⟨S100, .f32⟩
  | 63 => ⟨S100, .f32⟩
  | 64 => ⟨S_, .f32⟩
  | 65 => ⟨S_, .f32⟩
  | 66 => ⟨S_, .f32⟩
  | 67 => ⟨S100, .f32⟩
  | 68 => ⟨S100, .f32⟩
  | 69 => ⟨S_, .f32⟩
  | 70 => ⟨S100, .f32⟩
  | 71 => ⟨S100, .f32⟩
  | 72 => ⟨S100, .f32⟩
  | 73 => ⟨S100, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_c_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_1 : Ref sig .tc := ⟨.hbm, 20, rfl⟩
abbrev main_v7 : Ref sig .tc := ⟨.hbm, 21, rfl⟩
abbrev main_v8 : Ref sig .tc := ⟨.hbm, 22, rfl⟩
abbrev main_c_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_cst_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_5 : Ref sig .tc := ⟨.hbm, 50, rfl⟩
abbrev main_v28 : Ref sig .tc := ⟨.hbm, 51, rfl⟩
abbrev main_cst_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_call1_v0 : Ref sig .tc := ⟨.hbm, 64, rfl⟩
abbrev main_call1_cst : Ref sig .tc := ⟨.hbm, 65, rfl⟩
abbrev main_call1_v1 : Ref sig .tc := ⟨.hbm, 66, rfl⟩
abbrev main_call1_v2 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_8 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_cst_11 : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_12 : Ref sig .tc := ⟨.hbm, 96, rfl⟩
abbrev main_v58 : Ref sig .tc := ⟨.hbm, 97, rfl⟩
abbrev main_v59 : Ref sig .tc := ⟨.hbm, 98, rfl⟩
abbrev main_cst_13 : Ref sig .tc := ⟨.hbm, 99, rfl⟩
abbrev main_v60 : Ref sig .tc := ⟨.hbm, 100, rfl⟩
abbrev main_cst_14 : Ref sig .tc := ⟨.hbm, 101, rfl⟩
abbrev main_v61 : Ref sig .tc := ⟨.hbm, 102, rfl⟩
abbrev main_cst_15 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_c_16 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_v68 : Ref sig .tc := ⟨.hbm, 114, rfl⟩
abbrev main_c_17 : Ref sig .tc := ⟨.hbm, 115, rfl⟩
abbrev main_v69 : Ref sig .tc := ⟨.hbm, 116, rfl⟩
abbrev main_call4_v0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_18 : Ref sig .tc := ⟨.hbm, 128, rfl⟩
abbrev main_v76 : Ref sig .tc := ⟨.hbm, 129, rfl⟩
abbrev main_cst_19 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_20 : Ref sig .tc := ⟨.hbm, 134, rfl⟩
abbrev main_v80 : Ref sig .tc := ⟨.hbm, 135, rfl⟩
abbrev main_call5_cst : Ref sig .tc := ⟨.hbm, 136, rfl⟩
abbrev main_call5_v0 : Ref sig .tc := ⟨.hbm, 137, rfl⟩
abbrev main_call5_cst_0 : Ref sig .tc := ⟨.hbm, 138, rfl⟩
abbrev main_call5_v1 : Ref sig .tc := ⟨.hbm, 139, rfl⟩
abbrev main_call5_v2 : Ref sig .tc := ⟨.hbm, 140, rfl⟩
abbrev main_call5_v3 : Ref sig .tc := ⟨.hbm, 141, rfl⟩
abbrev main_call5_v4 : Ref sig .tc := ⟨.hbm, 142, rfl⟩
abbrev main_call5_v5 : Ref sig .tc := ⟨.hbm, 143, rfl⟩
abbrev main_call5_cst_1 : Ref sig .tc := ⟨.hbm, 144, rfl⟩
abbrev main_call5_v6 : Ref sig .tc := ⟨.hbm, 145, rfl⟩
abbrev main_call5_v7 : Ref sig .tc := ⟨.hbm, 146, rfl⟩
abbrev main_call5_v8 : Ref sig .tc := ⟨.hbm, 147, rfl⟩
abbrev main_call5_v9 : Ref sig .tc := ⟨.hbm, 148, rfl⟩
abbrev main_v81 : Ref sig .tc := ⟨.hbm, 149, rfl⟩
abbrev main_c_21 : Ref sig .tc := ⟨.hbm, 150, rfl⟩
abbrev main_v82 : Ref sig .tc := ⟨.hbm, 151, rfl⟩
abbrev main_v83 : Ref sig .tc := ⟨.hbm, 152, rfl⟩
abbrev main_c_22 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_23 : Ref sig .tc := ⟨.hbm, 161, rfl⟩
abbrev main_v91 : Ref sig .tc := ⟨.hbm, 162, rfl⟩
abbrev main_cst_24 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_cst_25 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_v103 : Ref sig .tc := ⟨.hbm, 176, rfl⟩
abbrev main_cst_26 : Ref sig .tc := ⟨.hbm, 177, rfl⟩
abbrev main_v104 : Ref sig .tc := ⟨.hbm, 178, rfl⟩
abbrev main_cst_27 : Ref sig .tc := ⟨.hbm, 179, rfl⟩
abbrev main_v105 : Ref sig .tc := ⟨.hbm, 180, rfl⟩
abbrev main_v106 : Ref sig .tc := ⟨.hbm, 181, rfl⟩
abbrev main_cst_28 : Ref sig .tc := ⟨.hbm, 182, rfl⟩
abbrev main_v107 : Ref sig .tc := ⟨.hbm, 183, rfl⟩
abbrev main_cst_29 : Ref sig .tc := ⟨.hbm, 184, rfl⟩
abbrev main_v108 : Ref sig .tc := ⟨.hbm, 185, rfl⟩
abbrev main_v109 : Ref sig .tc := ⟨.hbm, 186, rfl⟩
abbrev main_cst_30 : Ref sig .tc := ⟨.hbm, 187, rfl⟩
abbrev main_v110 : Ref sig .tc := ⟨.hbm, 188, rfl⟩
abbrev main_cst_31 : Ref sig .tc := ⟨.hbm, 189, rfl⟩
abbrev main_v111 : Ref sig .tc := ⟨.hbm, 190, rfl⟩
abbrev main_v112 : Ref sig .tc := ⟨.hbm, 191, rfl⟩
abbrev main_cst_32 : Ref sig .tc := ⟨.hbm, 192, rfl⟩
abbrev main_cst_33 : Ref sig .tc := ⟨.hbm, 193, rfl⟩
abbrev main_call6_v0 : Ref sig .tc := ⟨.hbm, 194, rfl⟩
abbrev main_call6_v1 : Ref sig .tc := ⟨.hbm, 195, rfl⟩
abbrev main_call6_v2 : Ref sig .tc := ⟨.hbm, 196, rfl⟩
abbrev main_call6_v3 : Ref sig .tc := ⟨.hbm, 197, rfl⟩
abbrev main_call6_v4 : Ref sig .tc := ⟨.hbm, 198, rfl⟩
abbrev main_v113 : Ref sig .tc := ⟨.hbm, 199, rfl⟩
abbrev main_v114 : Ref sig .tc := ⟨.hbm, 200, rfl⟩
abbrev main_v115 : Ref sig .tc := ⟨.hbm, 201, rfl⟩
abbrev main_cst_34 : Ref sig .tc := ⟨.hbm, 202, rfl⟩
abbrev main_v116 : Ref sig .tc := ⟨.hbm, 203, rfl⟩
abbrev main_v117 : Ref sig .tc := ⟨.hbm, 204, rfl⟩
abbrev main_cst_35 : Ref sig .tc := ⟨.hbm, 205, rfl⟩
abbrev main_v118 : Ref sig .tc := ⟨.hbm, 206, rfl⟩
abbrev main_cst_36 : Ref sig .tc := ⟨.hbm, 207, rfl⟩
abbrev main_v119 : Ref sig .tc := ⟨.hbm, 208, rfl⟩
abbrev main_cst_37 : Ref sig .tc := ⟨.hbm, 209, rfl⟩
abbrev main_v120 : Ref sig .tc := ⟨.hbm, 210, rfl⟩
abbrev main_v121 : Ref sig .tc := ⟨.hbm, 211, rfl⟩

abbrev nD : Nat := 1
abbrev τ : Topo := Topo.v7x

variable {F : FTy → Type} [FloatOps F]
-- ==== Proof.Block.lean ====
/-
  What each case of the kernel's body leaves in the scratch and in the output, as the payloads over the blocks it reads.
-/
module

public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section
namespace NcodLoss
open Idealize.ShloMosaic Cert.KernelIdeal Cert.KernelIdeal.Gen Idealize.ShloMosaic.TcCoe Idealize.SL.Sem
open Idealize.ShloMosaic.Pipeline (Dat)

variable (m : (ℓ : Loc nD τ sig) → Buf (Elt Ideal) ℓ) (c : Dev nD)

/-- What the kernel keeps between blocks: the class vectors divided by their lengths, the blocks' largest scores and sums of
    exponentials, and per class the sums of the cross entropy, of the squared gaps, of the predictions, of the occurrences and
    of the scores. -/
abbrev State : Type := Vec Ideal S100x512 .f32 × Vec Ideal S1x128 .f32 × Vec Ideal S1x128 .f32 × Vec Ideal S1x100 .f32 × Vec Ideal S1x100 .f32
  × Vec Ideal S1x100 .f32 × Vec Ideal S1x100 .f32 × Vec Ideal S1x100 .f32

/-- What is kept after a block, from what was kept before it. -/
def step (a : BitVec 32) (x0 : Vec Ideal S1024x1 .i32) (x1 x2 : Vec Ideal S1024x100 .f32) (x3 : Vec Ideal S1024x512 .f32)
    (x4 : Vec Ideal S100x1 .f32) (s : State) : State :=
  (s.1, k0_pay32 a x1 x2 k0_pay14 s.2.1, k0_pay1 (k0_pay31 x1 x2 k0_pay14) s.2.2.1 (k0_pay33 a),
    k0_pay22 x2 k0_pay13 (k0_pay16 x0 x4) (k0_pay17 x2 x3 s.1) (k0_pay19 x1) (k0_pay20 x1) s.2.2.2.1,
    k0_pay23 x1 x2 k0_pay13 (k0_pay18 x1) s.2.2.2.2.1,
    k0_pay24 x2 k0_pay13 (k0_pay16 x0 x4) (k0_pay19 x1) (k0_pay20 x1) s.2.2.2.2.2.1,
    k0_pay26 s.2.2.2.2.2.2.1 (k0_pay25 k0_pay13 (k0_pay15 x0)),
    k0_pay28 x1 x2 k0_pay13 k0_pay14 (k0_pay15 x0) s.2.2.2.2.2.2.2)

/-- What is kept when the first block begins. -/
def start (x5 : Vec Ideal S100x512 .f32) : State :=
  (k0_pay3 x5, k0_pay4 (F := Ideal), k0_pay5 (F := Ideal), k0_pay6 (F := Ideal), k0_pay7 (F := Ideal), k0_pay8 (F := Ideal),
    k0_pay11 (F := Ideal) k0_pay9, k0_pay12 (F := Ideal))

/-- The result from what is kept after the last block. -/
def finish (x4 : Vec Ideal S100x1 .f32) (s : State) : Vec Ideal S1x1 .f32 :=
  k0_pay2 (k0_pay10 (iota .tc S1x128 32 [1] iota_S1x128_d1_w32) s.2.1 s.2.2.1 x4 s.2.2.2.2.2.2.1 s.2.2.2.2.2.2.1 s.2.2.2.2.2.2.2)
    (Scalar.ofBits .f32 0x45800000#32) s.2.2.2.2.2.1 s.2.2.2.1 s.2.2.2.2.1

/-- What the point before left. -/
abbrev before (t : Fin cfg0.N) := outsAt0 m c (t.val - 1) (Nat.lt_of_le_of_lt (Nat.sub_le _ _) t.isLt)

theorem coord_val (t : Fin cfg0.N) : (grid0.coords t 0).val = t.val := by
  have ht : t.val < 4 := Nat.lt_of_lt_of_eq t.isLt N_0
  have e0 : (grid0.coords t 0).val = t.val / 1 % 4 := Pipeline.Grid.coords_val t 0 (by decide) rfl
  omega

theorem word_of_coord (t : Fin cfg0.N) : BitVec.ofNat 32 t.val = BitVec.ofNat 32 (grid0.coords t 0).val := by rw [coord_val]

theorem first_block (t : Fin cfg0.N) (h0 : t.val % 4 = 0) (h1 : ¬t.val % 4 = 3) : (outsAt0 m c t.val t.isLt).2
    = step (BitVec.ofNat 32 t.val) (iblk m c 0 t) (iblk m c 1 t) (iblk m c 2 t) (iblk m c 3 t) (iblk m c 4 t) (start (iblk m c 5 t)) := by
  rw [outsAt0_A m c t h0 h1, word_of_coord t]
  simp only [step, start]
  refine Prod.ext ?_ (Prod.ext ?_ (Prod.ext ?_ (Prod.ext ?_ (Prod.ext ?_ (Prod.ext ?_ (Prod.ext ?_ ?_)))))) <;> frame_out

theorem middle_block (t : Fin cfg0.N) (h0 : ¬t.val % 4 = 0) (h1 : ¬t.val % 4 = 3) : (outsAt0 m c t.val t.isLt).2
    = step (BitVec.ofNat 32 t.val) (iblk m c 0 t) (iblk m c 1 t) (iblk m c 2 t) (iblk m c 3 t) (iblk m c 4 t) (before m c t).2 := by
  rw [outsAt0_B m c t h0 h1, word_of_coord t]
  simp only [step, before]
  refine Prod.ext ?_ (Prod.ext ?_ (Prod.ext ?_ (Prod.ext ?_ (Prod.ext ?_ (Prod.ext ?_ (Prod.ext ?_ ?_)))))) <;> frame_out <;> (try simp only [read_unread_whole])
  · simp only [sout0_B_0, read_unread_whole]

theorem last_block (t : Fin cfg0.N) (h0 : ¬t.val % 4 = 0) (h1 : t.val % 4 = 3) : (outsAt0 m c t.val t.isLt).1
    = finish (iblk m c 4 t)
        (step (BitVec.ofNat 32 t.val) (iblk m c 0 t) (iblk m c 1 t) (iblk m c 2 t) (iblk m c 3 t) (iblk m c 4 t) (before m c t).2) := by
  rw [outsAt0_C m c t h0 h1, word_of_coord t]
  simp only [step, finish, before]
  frame_out
  simp only [read_unread_whole]

/-- The `i`-th point of the grid. -/
abbrev pt (i : ℕ) (h : i < 4 := by decide) : Fin cfg0.N := ⟨i, lt_of_lt_of_eq h N_0.symm⟩

/-- What is kept after point `i`, from what was kept before it. -/
abbrev stepAt (t : Fin cfg0.N) (s : State) : State :=
  step (BitVec.ofNat 32 t.val) (iblk m c 0 t) (iblk m c 1 t) (iblk m c 2 t) (iblk m c 3 t) (iblk m c 4 t) s

/-- What is kept after the whole grid. -/
abbrev total : State :=
  stepAt m c (pt 3) (stepAt m c (pt 2) (stepAt m c (pt 1) (stepAt m c (pt 0) (start (iblk m c 5 (pt 0))))))

/-- The output's array after the run. -/
theorem out_array : (dats m 0 c).arrAt 6 cfg0.N = finish (iblk m c 4 (pt 3)) (total m c) := by
  refine (dats m 0 c).arrAt_eq_of_after_last 6 (pt 3) (by decide +kernel) _ fun j => ?_
  blk_simp
  rw [after0_6, last_block m c (pt 3) (by decide) (by decide)]
  have e2 : (before m c (pt 3)).2 = stepAt m c (pt 2) (before m c (pt 2)).2 := middle_block m c (pt 2) (by decide) (by decide)
  have e1 : (before m c (pt 2)).2 = stepAt m c (pt 1) (before m c (pt 1)).2 := middle_block m c (pt 1) (by decide) (by decide)
  have e0 : (before m c (pt 1)).2 = stepAt m c (pt 0) (start (iblk m c 5 (pt 0))) := first_block m c (pt 0) (by decide) (by decide)
  rw [e2, e1, e0]

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)

section
variable (t : Fin cfg0.N) (k : Fin 1024) (x : Fin 100) (e : Fin 512)

/-- Row `k` of block `t`. -/
def rowAt : Fin 4096 := ⟨t.val * 1024 + k.val, by have := Nat.lt_of_lt_of_eq t.isLt N_0; omega⟩

theorem outputs_block : (iblk m c 1 t : Vec Ideal S1024x100 .f32) (ix2 k x) = m ((c.tc : Thread nD τ).loc main_arg1) (ix2 (rowAt t k) x) := by
  blk_simp [iblk]
  rw [V_main_arg1]
  blk_ext [index1, rowAt]
theorem label_block : (iblk m c 2 t : Vec Ideal S1024x100 .f32) (ix2 k x) = m ((c.tc : Thread nD τ).loc main_arg2) (ix2 (rowAt t k) x) := by
  blk_simp [iblk]
  rw [V_main_arg2]
  blk_ext [index2, rowAt]
theorem features_block : (iblk m c 3 t : Vec Ideal S1024x512 .f32) (ix2 k e) = m ((c.tc : Thread nD τ).loc main_arg3) (ix2 (rowAt t k) e) := by
  blk_simp [iblk]
  rw [V_main_arg3]
  blk_ext [index3, rowAt]
theorem u_block : (iblk m c 4 t : Vec Ideal S100x1 .f32) (ix2 x 0) = m ((c.tc : Thread nD τ).loc main_arg7) (ix2 x 0) := by
  blk_simp [iblk]
  rw [V_main_arg7]
  blk_ext [index4, rowAt]
theorem class_block : (iblk m c 5 t : Vec Ideal S100x512 .f32) (ix2 x e) = m ((c.tc : Thread nD τ).loc main_arg8) (ix2 x e) := by
  blk_simp [iblk]
  rw [V_main_arg8]
  blk_ext [index5, rowAt]
theorem index_block : (iblk m c 0 t : Vec Ideal S1024x1 .i32) (ix2 k 0) = m ((c.tc : Thread nD τ).loc main_arg0) (ix1 (rowAt t k)) := by
  blk_simp [iblk]
  have hV : V m c main_v0 = shapeCast S4096x1 (m ((c.tc : Thread nD τ).loc main_arg0)) shapeCasts_S4096_S4096x1 := rfl
  have hi : (win0_0.blk t).view.emb (ix2 k 0) = ix2 (rowAt t k) 0 := by
    blk_ext [index0, rowAt]
  rw [hV, hi]
  pointwise
end

/-- The result's buffer after the operation that follows the kernel. -/
theorem result_value : Pipeline.afterTail₀ cfgs (dats m) 0 (V0 m) [hostOps1] c main_v2
    = fun _ : S_.Idx => finish (iblk m c 4 (pt 3)) (total m c) (ix2 0 0) := by
  have h : Pipeline.afterTail₀ cfgs (dats m) 0 (V0 m) [hostOps1] c main_v2
      = shapeCast S_ (Pipeline.withArrays spec0 c (V0 m c) (fun w => (dats m 0 c).arrAt w cfg0.N) (Proc.devRef .tc main_v1)) shapeCasts_S1x1_S_ := rfl
  have h' : Pipeline.withArrays spec0 c (V0 m c) (fun w => (dats m 0 c).arrAt w cfg0.N) (Proc.devRef .tc main_v1)
      = (dats m 0 c).arrAt 6 cfg0.N := Pipeline.withArrays_arr spec0 winFacts0.arr_inj c (V0 m c) (fun w => (dats m 0 c).arrAt w cfg0.N) 6
  rw [h, h', out_array]
  funext i
  pointwise

/-- The kernel's run: the result is what `finish` makes of what is kept after the grid, and the arguments are unchanged. -/
theorem kernel_run (ρ : Dev nD → PrngReg) : θ_run (defs (F := Ideal)) (onTc (τ := τ) (main (F := Ideal))) ⟨m, fun _ => 0, ρ⟩ (fun r => ∀ c : Dev nD,
      r.2.mem ((c.tc : Thread nD τ).loc main_v2) = (fun _ : S_.Idx => finish (iblk m c 4 (pt 3)) (total m c) (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  have h : θ_run (defs (F := Ideal)) (onTc (τ := τ) (main (F := Ideal))) ⟨m, fun _ => 0, ρ⟩ (fun r => ∀ c : Dev nD,
      r.2.mem ((c.tc : Thread nD τ).loc main_v2) = (fun _ : S_.Idx => finish (iblk m c 4 (pt 3)) (total m c) (ix2 0 0))) :=
    (θ_run defs _ _).mono (fun _ h c => ((h c).2 main_v2 (Pipeline.mem_restRefs_of main_v2 (by decide) (by decide))).trans (result_value m c)) (run_main m ρ)
  exact (θ_run defs _ _).mono (fun _ h c => ⟨h.2 c, h.1 c⟩) (θ_run_and (unchanged m ρ) h)
end NcodLoss
-- ==== Proof.Reals.lean ====
/-
  The loss as a function of real numbers, and the operations of the extended reals on finite values.
-/
module

public import Idealize.ShloMosaic.PureOps.Ideal
public import Idealize.ShloMosaic.Lib.IdealHost
public import Mathlib.Analysis.SpecialFunctions.Log.Basic

@[expose] public section

noncomputable section
open scoped BigOperators
namespace NcodLoss
open Idealize.ShloMosaic

/-! ## Finite values -/

/-- A sum of finite values is finite. -/
theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum whose terms are known to be finite. -/
theorem sum_eq_coe {ι : Type*} [Fintype ι] {F : ι → EReal} {f : ι → ℝ} (h : ∀ i, F i = ((f i : ℝ) : EReal)) :
    ∑ i, F i = ((∑ i, f i : ℝ) : EReal) := by
  rw [← sum_coe]; exact Finset.sum_congr rfl fun i _ => h i

theorem max_coe (a b : ℝ) : max (a : EReal) (b : EReal) = ((max a b : ℝ) : EReal) :=
  (EReal.coe_strictMono.monotone.map_max).symm

theorem min_coe (a b : ℝ) : min (a : EReal) (b : EReal) = ((min a b : ℝ) : EReal) :=
  (EReal.coe_strictMono.monotone.map_min).symm

theorem div_real (a : ℝ) {b : ℝ} (hb : b ≠ 0) : Ideal.div (a : EReal) (b : EReal) = ((a / b : ℝ) : EReal) := by
  rw [Ideal.div_coe hb, ← EReal.coe_mul]; congr 1; ring

theorem log_real {r : ℝ} (h : 0 < r) : Ideal.log (r : EReal) = ((Real.log r : ℝ) : EReal) := by
  rw [Ideal.log_coe, if_neg (not_le.mpr h)]

/-- The largest of finitely many finite values is finite, an upper bound, and attained. -/
theorem fold_max_real {ι : Type*} [Fintype ι] [Nonempty ι] (f : ι → ℝ) :
    ∃ M : ℝ, Finset.univ.fold max (⊥ : EReal) (fun i => ((f i : ℝ) : EReal)) = (M : EReal) ∧ (∀ i, f i ≤ M) ∧ ∃ i, f i = M := by
  obtain ⟨i, -, hi⟩ := Finset.exists_max_image Finset.univ f Finset.univ_nonempty
  refine ⟨f i, le_antisymm ?_ ?_, fun j => hi j (Finset.mem_univ j), i, rfl⟩
  · rw [Finset.fold_max_le]
    exact ⟨bot_le, fun j hj => EReal.coe_le_coe_iff.mpr (hi j hj)⟩
  · rw [Finset.le_fold_max]
    exact .inr ⟨i, Finset.mem_univ i, le_rfl⟩

/-! ## Constants -/

theorem bits_batch : Ideal.ofBits .f32 0x45800000#32 = ((4096 : ℝ) : EReal) := by
  simp [Ideal.ofBits, Ideal.ieee, -EReal.coe_mul]; norm_num
theorem bits_classes : Ideal.ofBits .f32 0x42C80000#32 = ((100 : ℝ) : EReal) := by
  simp [Ideal.ofBits, Ideal.ieee, -EReal.coe_mul]; norm_num
theorem bits_one : Ideal.ofBits .f32 0x3F800000#32 = ((1 : ℝ) : EReal) := by
  rw [Ideal.ofBits_one_f32]; rfl
theorem bits_zero : Ideal.ofBits .f32 0x00000000#32 = ((0 : ℝ) : EReal) := by
  rw [Ideal.ofBits_zero_f32]; rfl
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]

/-- The lower end of the clipping interval. -/
def eps : ℝ := 13743895 / 2 ^ 37
theorem eps_pos : 0 < eps := by unfold eps; norm_num
theorem bits_eps : Ideal.ofBits .f32 0x38D1B717#32 = ((eps : ℝ) : EReal) := by
  simp [Ideal.ofBits, Ideal.ieee, eps, -EReal.coe_mul]; norm_num
/-- The filling of the kernel's unused lanes is finite. -/
theorem bits_fill : ∃ q : ℝ, Ideal.ofBits .f32 0xFF61B1E6#32 = (q : EReal) := by
  simp [Ideal.ofBits, Ideal.ieee, -EReal.coe_mul]
  exact ⟨_, rfl⟩

/-! ## A row divided by its length -/

/-- `r` is the row `x` divided by its length, however the program spells it. -/
structure IsRow {n : ℕ} (x : Fin n → EReal) (r : Fin n → ℝ) : Prop where
  mul : ∀ e, x e * Ideal.rsqrt (∑ e, x e * x e) = ((r e : ℝ) : EReal)
  div : ∀ e, Ideal.div (x e) (Ideal.sqrt (∑ e, x e * x e)) = ((r e : ℝ) : EReal)
  dot : ∀ (g : Fin n → ℝ) (l : ℝ), Ideal.rsqrt (∑ e, x e * x e) * max ((∑ e, x e * (g e : EReal)) * (l : EReal)) 0
    = ((max ((∑ e, r e * g e) * l) 0 : ℝ) : EReal)

theorem mul_self_nonneg' (x : EReal) : 0 ≤ x * x := by
  induction x using EReal.rec with
  | bot => simp
  | top => simp
  | coe r => rw [← EReal.coe_mul]; exact_mod_cast mul_self_nonneg r

/-- Every row whose sum of squares is positive has such a quotient. -/
theorem exists_row {n : ℕ} (x : Fin n → EReal) (h : 0 < ∑ e, x e * x e) : ∃ r, IsRow x r := by
  by_cases ht : (∑ e, x e * x e) = ⊤
  · refine ⟨fun _ => 0, fun e => ?_, fun e => ?_, fun g l => ?_⟩
    · rw [ht]; simp
    · rw [ht, Ideal.sqrt_top]; simp [Ideal.div]
    · rw [ht]; simp
  · have hx : ∀ e, ∃ y : ℝ, x e = (y : EReal) := by
      intro e
      have hle : x e * x e ≤ ∑ e, x e * x e :=
        Finset.single_le_sum (f := fun e => x e * x e) (fun i _ => mul_self_nonneg' (x i)) (Finset.mem_univ e)
      have hne : x e * x e ≠ ⊤ := fun h' => ht (top_le_iff.mp (h' ▸ hle))
      revert hne
      generalize x e = y
      induction y using EReal.rec with
      | bot => simp
      | top => simp
      | coe r => exact fun _ => ⟨r, rfl⟩
    choose y hy using hx
    obtain rfl : x = fun e => (y e : EReal) := funext hy
    have hS : (∑ e, (y e : EReal) * (y e : EReal)) = ((∑ e, y e * y e : ℝ) : EReal) :=
      sum_eq_coe fun e => (EReal.coe_mul _ _).symm
    simp only [hS] at h ⊢
    set S : ℝ := ∑ e, y e * y e with hSdef
    have hpos : 0 < S := by exact_mod_cast h
    have hsq : 0 < Real.sqrt S := Real.sqrt_pos.mpr hpos
    have hr : Ideal.rsqrt (S : EReal) = (((Real.sqrt S)⁻¹ : ℝ) : EReal) := by
      rw [Ideal.rsqrt_coe, if_neg (not_lt.mpr hpos.le), if_neg hpos.ne']
    refine ⟨fun e => y e * (Real.sqrt S)⁻¹, fun e => ?_, fun e => ?_, fun g l => ?_⟩
    · simp only [hS, hr]; rw [EReal.coe_mul]
    · simp only [hS]
      rw [Ideal.sqrt_coe, if_neg (not_lt.mpr hpos.le), div_real _ hsq.ne', div_eq_mul_inv]
    · simp only [hS, hr]
      have h1 : (∑ e, (y e : EReal) * (g e : EReal)) = ((∑ e, y e * g e : ℝ) : EReal) :=
        sum_eq_coe fun e => (EReal.coe_mul _ _).symm
      rw [h1, ← EReal.coe_mul, ← EReal.coe_zero, max_coe, ← EReal.coe_mul, mul_max_of_nonneg _ _ (inv_pos.mpr hsq).le]
      congr 2
      · rw [← mul_assoc, Finset.mul_sum]
        congr 1
        exact Finset.sum_congr rfl fun e _ => by ring
      · ring

/-! ## The loss -/

/-- The real quantities that the loss of `n` rows is a function of: outputs `o`, labels `l`, feature rows of length one
    `r`, class vectors of length one `g`, the parameter `u` of every example, the example `ix` of a row, and the class
    `top` at which a row's outputs are largest. -/
structure Rows (n : ℕ) where
  o : Fin n → Fin 100 → ℝ
  l : Fin n → Fin 100 → ℝ
  r : Fin n → Fin 512 → ℝ
  g : Fin 100 → Fin 512 → ℝ
  u : Fin 100 → ℝ
  ix : Fin n → Fin 100
  top : Fin n → Fin 100

namespace Rows
variable {n : ℕ} (D : Rows n)

/-- The similarity of a row with a class, times the label, where that is positive. -/
def sim (b : Fin n) (c : Fin 100) : ℝ := max ((∑ e, D.r b e * D.g c e) * D.l b c) 0
/-- The sum of a row's exponentials. -/
def mass (b : Fin n) : ℝ := ∑ c, Real.exp (D.o b c)
/-- The clipped prediction. -/
def pred (b : Fin n) (c : Fin 100) : ℝ :=
  min 1 (max eps (Real.exp (D.o b c) / D.mass b + D.u (D.ix b) * D.l b c))
/-- The difference of the hard prediction and the label. -/
def gap (b : Fin n) (c : Fin 100) : ℝ := (if c = D.top b then 1 else 0) - D.l b c
/-- The score of a row at its label. -/
def score (b : Fin n) : ℝ := ∑ c, D.o b c * D.l b c

theorem mass_pos (b : Fin n) : 0 < D.mass b :=
  Finset.sum_pos (fun _ _ => Real.exp_pos _) Finset.univ_nonempty
theorem pred_pos (b : Fin n) (c : Fin 100) : 0 < D.pred b c :=
  lt_min one_pos (lt_max_of_lt_left eps_pos)

end Rows

/-- The clipped mean prediction is positive. -/
theorem clip_pos (x : ℝ) : 0 < min 1 (max eps x) := lt_min one_pos (lt_max_of_lt_left eps_pos)

/-- A sum over rows taken block by block. -/
theorem sum_blocks {A S N : ℕ} (hN : N = A * S) (f : Fin N → ℝ) :
    ∑ i : Fin A, ∑ j : Fin S, f ⟨i.val * S + j.val, by
      have := i.isLt; have := j.isLt
      calc i.val * S + j.val < (i.val + 1) * S := by rw [Nat.add_mul]; omega
        _ ≤ A * S := Nat.mul_le_mul_right _ (by omega)
        _ = N := hN.symm⟩ = ∑ k, f k := by
  subst hN
  rw [← Fintype.sum_prod_type']
  refine Fintype.sum_equiv finProdFinEquiv _ _ fun x => congrArg f (Fin.ext ?_)
  simp [finProdFinEquiv, Nat.mul_comm, Nat.add_comm]

/-! ## The divergence term -/

/-- A sum of exponentials taken block by block, each block about its own offset `m`, and combined about any `M`. -/
theorem logsum_blocks {T K : ℕ} [NeZero T] [NeZero K] (s : Fin T → Fin K → ℝ) (m : Fin T → ℝ) (M : ℝ) :
    M + Real.log (∑ t, (∑ k, Real.exp (s t k - m t)) * Real.exp (m t - M)) = Real.log (∑ t, ∑ k, Real.exp (s t k)) := by
  have h : ∑ t, (∑ k, Real.exp (s t k - m t)) * Real.exp (m t - M) = (∑ t, ∑ k, Real.exp (s t k)) * Real.exp (-M) := by
    rw [Finset.sum_mul]
    refine Finset.sum_congr rfl fun t _ => ?_
    rw [Finset.sum_mul, Finset.sum_mul]
    refine Finset.sum_congr rfl fun k _ => ?_
    rw [← Real.exp_add, ← Real.exp_add]; congr 1; ring
  have hp : 0 < ∑ t, ∑ k, Real.exp (s t k) :=
    Finset.sum_pos (fun _ _ => Finset.sum_pos (fun _ _ => Real.exp_pos _) Finset.univ_nonempty) Finset.univ_nonempty
  rw [h, Real.log_mul hp.ne' (Real.exp_pos _).ne', Real.log_exp]; ring

/-- The divergence, from the sums that the kernel keeps: `v` the parameters' negatives, `s` the scores. -/
theorem divergence {ι : Type*} [Fintype ι] [Nonempty ι] (v s : ι → ℝ) (L : ℝ) (cv cs : ℝ) :
    (∑ b, Real.exp (v b) * v b) / (∑ b, Real.exp (v b)) - Real.log (∑ b, Real.exp (v b))
        - (∑ b, s b * Real.exp (v b)) / (∑ b, Real.exp (v b)) + L
      = ∑ b, (Real.exp (v b - cv) / ∑ b, Real.exp (v b - cv))
          * (Real.log (Real.exp (v b - cv) / ∑ b, Real.exp (v b - cv)) - (s b - cs - (L - cs))) := by
  have hZ : 0 < ∑ b, Real.exp (v b) := Finset.sum_pos (fun _ _ => Real.exp_pos _) Finset.univ_nonempty
  set Z := ∑ b, Real.exp (v b) with hZd
  have hq : ∀ b, Real.exp (v b - cv) / ∑ b, Real.exp (v b - cv) = Real.exp (v b) / Z := by
    intro b
    have : ∑ b, Real.exp (v b - cv) = Z * Real.exp (-cv) := by
      rw [hZd, Finset.sum_mul]; exact Finset.sum_congr rfl fun b _ => by rw [← Real.exp_add]; congr 1
    rw [this, show v b - cv = v b + -cv by ring, Real.exp_add, mul_div_mul_right _ _ (Real.exp_pos _).ne']
  have hl : ∀ b, Real.log (Real.exp (v b) / Z) = v b - Real.log Z := fun b => by
    rw [Real.log_div (Real.exp_pos _).ne' hZ.ne', Real.log_exp]
  simp only [hq, hl]
  have h1 : ∑ b, Real.exp (v b) / Z = 1 := by rw [← Finset.sum_div, div_self hZ.ne']
  have : ∑ b, Real.exp (v b) / Z * (v b - Real.log Z - (s b - cs - (L - cs)))
      = (∑ b, Real.exp (v b) * v b) / Z - (∑ b, s b * Real.exp (v b)) / Z + (∑ b, Real.exp (v b) / Z) * (L - Real.log Z) := by
    rw [Finset.sum_div, Finset.sum_div, Finset.sum_mul, ← Finset.sum_sub_distrib, ← Finset.sum_add_distrib]
    exact Finset.sum_congr rfl fun b _ => by ring
  rw [this, h1]; ring

/-- Sums weighted by how often each class occurs are sums over the rows. -/
theorem sum_by_class {ι κ : Type*} [Fintype ι] [Fintype κ] [DecidableEq κ] (ix : ι → κ) (w : ι → ℝ) (F : κ → ℝ) :
    ∑ c, (∑ b, (if ix b = c then w b else 0)) * F c = ∑ b, w b * F (ix b) := by
  simp only [Finset.sum_mul]
  rw [Finset.sum_comm]
  refine Finset.sum_congr rfl fun b _ => ?_
  simp [ite_mul]

/-- The arrays hold the real quantities `D`: outputs, labels, feature rows, class vectors, parameters, weights, examples and
    the examples' numbers. -/
structure Data (D : Rows 4096) (a0 : Fin 4096 → BitVec 32) (a1 a2 : Fin 4096 → Fin 100 → EReal) (a3 : Fin 4096 → Fin 512 → EReal)
    (a7 : Fin 100 → EReal) (a8 : Fin 100 → Fin 512 → EReal) (a9 : Fin 100 → EReal) (a10 : Fin 100 → BitVec 32) : Prop where
  o : ∀ b c, a1 b c = ((D.o b c : ℝ) : EReal)
  l : ∀ b c, a2 b c = ((D.l b c : ℝ) : EReal)
  r : ∀ b, IsRow (a3 b) (D.r b)
  i : ∀ b, a0 b = BitVec.ofNat 32 (D.ix b).val
  u : ∀ c, a7 c = ((D.u c : ℝ) : EReal)
  g : ∀ c, IsRow (a8 c) (D.g c)
  w : ∀ c, a9 c = 0
  n : ∀ c, a10 c = BitVec.ofNat 32 c.val
  top : ∀ b c, D.o b c ≤ D.o b (D.top b)
  only : ∀ b c, D.o b c = D.o b (D.top b) → c = D.top b

namespace Rows
variable (D : Rows 4096)

/-- The divergence of the scores' distribution from the parameters'. -/
def kl : ℝ :=
  (∑ b, Real.exp (-D.u (D.ix b)) * -D.u (D.ix b)) / (∑ b, Real.exp (-D.u (D.ix b))) - Real.log (∑ b, Real.exp (-D.u (D.ix b)))
    - (∑ b, D.score b * Real.exp (-D.u (D.ix b))) / (∑ b, Real.exp (-D.u (D.ix b))) + Real.log (∑ b, Real.exp (D.score b))

/-- The loss. -/
def loss : ℝ :=
  (0 - ∑ c, ∑ b, D.sim b c * Real.log (D.pred b c) + ∑ c, ∑ b, D.gap b c * D.gap b c) / 4096 + D.kl / 4096
    + (0 - ∑ c, Real.log (min 1 (max eps ((∑ b, D.pred b c) / 4096)))) / 100

/-- Row `k` of block `t`. -/
def row (t : Fin 4) (k : Fin 1024) : Fin 4096 := ⟨t.val * 1024 + k.val, by omega⟩

/-- The rows of block `t`. -/
def block (t : Fin 4) : Rows 1024 where
  o k := D.o (row t k)
  l k := D.l (row t k)
  r k := D.r (row t k)
  g := D.g
  u := D.u
  ix k := D.ix (row t k)
  top k := D.top (row t k)

end Rows

/-- A sum over the first `n` blocks. -/
def part (n : ℕ) (f : Fin 4 → ℝ) : ℝ := ∑ t : Fin 4, if t.val < n then f t else 0

theorem part_zero (f : Fin 4 → ℝ) : part 0 f = 0 := by simp [part]
theorem part_succ (t : Fin 4) (f : Fin 4 → ℝ) : part (t.val + 1) f = part t.val f + f t := by
  unfold part
  fin_cases t <;> simp [Fin.sum_univ_four]
theorem part_all (f : Fin 4096 → ℝ) : part 4 (fun t => ∑ k, f (Rows.row t k)) = ∑ b, f b := by
  have : part 4 (fun t => ∑ k, f (Rows.row t k)) = ∑ t : Fin 4, ∑ k, f (Rows.row t k) :=
    Finset.sum_congr rfl fun t _ => if_pos t.isLt
  rw [this]
  exact sum_blocks (A := 4) (S := 1024) (by norm_num) f

end NcodLoss
-- ==== Proof.Pays.lean ====
/-
  What the kernel computes from one block of 1024 rows, as real numbers.
-/
module

public import proofs.«01_k».proof.Proof.Gen.KernelIdeal.Skeleton
public import proofs.«01_k».proof.Proof.Reals
public import Idealize.ShloMosaic.Lib.Pointwise

@[expose] public section

set_option maxRecDepth 16384

noncomputable section
open scoped BigOperators
namespace NcodLoss
open Idealize.ShloMosaic Cert.KernelIdeal Cert.KernelIdeal.Gen

/-- The arrays that a block of the kernel reads hold the real quantities `D`. -/
structure Reads (D : Rows 1024) (v3 v4 : Vec Ideal S1024x100 .f32) (v5 : Vec Ideal S1024x512 .f32)
    (v6 : Vec Ideal S1024x1 .i32) (v16 : Vec Ideal S100x1 .f32) (v21 : Vec Ideal S100x512 .f32) : Prop where
  o : ∀ k c, v3 (ix2 k c) = ((D.o k c : ℝ) : EReal)
  l : ∀ k c, v4 (ix2 k c) = ((D.l k c : ℝ) : EReal)
  r : ∀ k, IsRow (fun e => v5 (ix2 k e)) (D.r k)
  i : ∀ k, v6 (ix2 k 0) = BitVec.ofNat 32 (D.ix k).val
  u : ∀ c, v16 (ix2 c 0) = ((D.u c : ℝ) : EReal)
  g : ∀ c e, v21 (ix2 c e) = ((D.g c e : ℝ) : EReal)
  top : ∀ k c, D.o k c ≤ D.o k (D.top k)
  only : ∀ k c, D.o k c = D.o k (D.top k) → c = D.top k

variable (v3 v4 : Vec Ideal S1024x100 .f32) (v5 : Vec Ideal S1024x512 .f32)
    (v6 : Vec Ideal S1024x1 .i32) (v16 : Vec Ideal S100x1 .f32) (v21 : Vec Ideal S100x512 .f32) (k : Fin 1024) (c : Fin 100)

/-- An indicator bit as a number. -/
theorem bit_coe (p : Prop) [Decidable p] :
    (FloatOps.sitofp FTy.f32 (BitVec.setWidth 32 (BitVec.ofBool (decide p))) : Ideal .f32) = (((if p then 1 else 0 : ℝ)) : EReal) := by
  show (((BitVec.toInt (BitVec.setWidth 32 (BitVec.ofBool (decide p))) : ℤ) : ℝ) : EReal) = _
  have h0 : (BitVec.setWidth 32 (BitVec.ofBool false)).toInt = 0 := by decide
  have h1 : (BitVec.setWidth 32 (BitVec.ofBool true)).toInt = 1 := by decide
  by_cases h : p
  · simp only [h, decide_true, if_true, h1, Int.cast_one]
  · simp only [h, decide_false, if_false, h0, Int.cast_zero]

theorem cmp_eq_bit (a b : BitVec 32) : IntOp.cmpi CmpIPredicate.eq a b = BitVec.ofBool (decide (a = b)) := by
  show BitVec.ofBool (a == b) = _
  rw [Bool.eq_iff_iff.2 (by simp : (a == b) = true ↔ decide (a = b) = true)]

/-- Two small numbers are equal exactly when their words are. -/
theorem word_eq {n : ℕ} (hn : n ≤ 2 ^ 32) (x y : Fin n) : (BitVec.ofNat 32 x.val = BitVec.ofNat 32 y.val) ↔ x = y := by
  constructor
  · intro h
    have := congrArg BitVec.toNat h
    simp only [BitVec.toNat_ofNat] at this
    have hx := x.isLt; have hy := y.isLt
    exact Fin.ext (by rw [Nat.mod_eq_of_lt (by omega), Nat.mod_eq_of_lt (by omega)] at this; exact this)
  · rintro rfl; rfl

variable {v3 v4 v5 v6 v16 v21}
variable {D : Rows 1024} (R : Reads D v3 v4 v5 v6 v16 v21)

theorem ones_rows : (k0_pay13 : FVec Ideal S1x1024 .f32) (ix2 0 k) = 1 := by pointwise [k0_pay13]
theorem ones_classes : (k0_pay14 : FVec Ideal S1x100 .f32) (ix2 0 c) = 1 := by pointwise [k0_pay14]

include R

/-- The one-hot row of a row's example. -/
theorem hot_apply : k0_pay15 (F := Ideal) v6 (ix2 k c) = (((if D.ix k = c then 1 else 0 : ℝ)) : EReal) := by
  pointwise [k0_pay15]
  rw [R.i k, cmp_eq_bit, bit_coe]
  simp only [word_eq (n := 100) (by norm_num)]

/-- The parameter of a row's example. -/
theorem param_apply : k0_pay16 (F := Ideal) v6 v16 (ix2 k 0) = ((D.u (D.ix k) : ℝ) : EReal) := by
  pointwise [k0_pay16]
  rw [sum_eq_coe (f := fun c => (if D.ix k = c then 1 else 0 : ℝ) * D.u c) fun c => by rw [hot_apply k c R, R.u c, ← EReal.coe_mul]]
  simp

/-- The similarity of a row with a class. -/
theorem sim_apply : k0_pay17 (F := Ideal) v4 v5 v21 (ix2 k c) = ((D.sim k c : ℝ) : EReal) := by
  pointwise [k0_pay17]
  simp only [R.g, R.l]
  exact (R.r k).dot (D.g c) (D.l k c)

/-- The largest output of a row. -/
theorem largest_apply : k0_pay18 (F := Ideal) v3 (ix2 k 0) = ((D.o k (D.top k) : ℝ) : EReal) := by
  pointwise [k0_pay18]
  simp only [R.o, bits_bot]
  obtain ⟨M, hM, hle, i, hi⟩ := fold_max_real (D.o k)
  rw [hM]
  exact congrArg _ (le_antisymm (hi ▸ R.top k i) (hle _))

/-- The exponential of an output. -/
theorem exp_apply : k0_pay19 (F := Ideal) v3 (ix2 k c) = ((Real.exp (D.o k c) : ℝ) : EReal) := by
  pointwise [k0_pay19]
  rw [R.o, Ideal.exp_coe]

/-- One over the sum of a row's exponentials. -/
theorem inv_apply : k0_pay20 (F := Ideal) v3 (ix2 k 0) = ((1 / D.mass k : ℝ) : EReal) := by
  pointwise [k0_pay20]
  rw [sum_eq_coe (f := fun c => Real.exp (D.o k c)) fun c => by rw [exp_apply k c R, ones_classes, mul_one]]
  exact div_real 1 (D.mass_pos k).ne'

/-- The clipped prediction. -/
theorem pred_apply : k0_pay21 (F := Ideal) v4 (k0_pay16 v6 v16) (k0_pay19 v3) (k0_pay20 v3) (ix2 k c) = ((D.pred k c : ℝ) : EReal) := by
  pointwise [k0_pay21]
  rw [exp_apply k c R, inv_apply k R, param_apply k R, R.l, bits_eps, ← EReal.coe_mul, ← EReal.coe_mul, ← EReal.coe_add,
    max_coe, ← EReal.coe_one, min_coe, mul_one_div]
  rfl

/-- The cross entropy's sums after a block. -/
theorem xent_apply {w : Vec Ideal S1x100 .f32} {a : ℝ} (h : w (ix2 0 c) = (a : EReal)) :
    k0_pay22 (F := Ideal) v4 k0_pay13 (k0_pay16 v6 v16) (k0_pay17 v4 v5 v21) (k0_pay19 v3) (k0_pay20 v3) w (ix2 0 c)
      = ((a + ∑ k, D.sim k c * Real.log (D.pred k c) : ℝ) : EReal) := by
  pointwise [k0_pay22]
  rw [h, sum_eq_coe (f := fun k => D.sim k c * Real.log (D.pred k c)) fun k => by
    rw [ones_rows, one_mul, sim_apply k c R, pred_apply k c R, log_real (D.pred_pos k c), ← EReal.coe_mul], ← EReal.coe_add]

/-- The squared gaps' sums after a block. -/
theorem gap_apply {w : Vec Ideal S1x100 .f32} {a : ℝ} (h : w (ix2 0 c) = (a : EReal)) :
    k0_pay23 (F := Ideal) v3 v4 k0_pay13 (k0_pay18 v3) w (ix2 0 c) = ((a + ∑ k, D.gap k c * D.gap k c : ℝ) : EReal) := by
  pointwise [k0_pay23]
  rw [h, sum_eq_coe (f := fun k => D.gap k c * D.gap k c) fun k => ?_, ← EReal.coe_add]
  rw [ones_rows, one_mul, R.o, R.l, largest_apply k R, bit_coe]
  have he : ((D.o k c : EReal) = (D.o k (D.top k) : EReal)) ↔ c = D.top k := by
    rw [EReal.coe_eq_coe_iff]; exact ⟨R.only k c, fun e => by rw [← e]⟩
  simp only [he]
  rw [← EReal.coe_sub, ← EReal.coe_mul]
  rfl

/-- The predictions' sums after a block. -/
theorem avg_apply {w : Vec Ideal S1x100 .f32} {a : ℝ} (h : w (ix2 0 c) = (a : EReal)) :
    k0_pay24 (F := Ideal) v4 k0_pay13 (k0_pay16 v6 v16) (k0_pay19 v3) (k0_pay20 v3) w (ix2 0 c)
      = ((a + ∑ k, D.pred k c : ℝ) : EReal) := by
  pointwise [k0_pay24]
  rw [h, sum_eq_coe (f := fun k => D.pred k c) fun k => by rw [ones_rows, one_mul, pred_apply k c R], ← EReal.coe_add]

/-- How often each example has occurred after a block. -/
theorem cnt_apply {w : Vec Ideal S1x100 .f32} {a : ℝ} (h : w (ix2 0 c) = (a : EReal)) :
    k0_pay26 (F := Ideal) w (k0_pay25 k0_pay13 (k0_pay15 v6)) (ix2 0 c)
      = ((a + ∑ k, (if D.ix k = c then 1 else 0) : ℝ) : EReal) := by
  pointwise [k0_pay26, k0_pay25]
  rw [h, sum_eq_coe (f := fun k => (if D.ix k = c then 1 else 0 : ℝ)) fun k => by rw [ones_rows, one_mul, hot_apply k c R], ← EReal.coe_add]

/-- The score of a row at its label. -/
theorem score_apply : k0_pay27 (F := Ideal) v3 v4 k0_pay14 (ix2 k 0) = ((D.score k : ℝ) : EReal) := by
  pointwise [k0_pay27]
  exact sum_eq_coe fun c => by rw [R.o, R.l, ones_classes, mul_one, ← EReal.coe_mul]

/-- The scores' sums by example after a block. -/
theorem se_apply {w : Vec Ideal S1x100 .f32} {a : ℝ} (h : w (ix2 0 c) = (a : EReal)) :
    k0_pay28 (F := Ideal) v3 v4 k0_pay13 k0_pay14 (k0_pay15 v6) w (ix2 0 c)
      = ((a + ∑ k, (if D.ix k = c then D.score k else 0) : ℝ) : EReal) := by
  pointwise [k0_pay28]
  rw [h, sum_eq_coe (f := fun k => (if D.ix k = c then D.score k else 0 : ℝ)) fun k => ?_, ← EReal.coe_add]
  rw [ones_rows, one_mul, hot_apply k c R, score_apply k R, ← EReal.coe_mul, ite_mul, one_mul, zero_mul]

/-- The scores laid out in eight rows of 128 lanes. -/
theorem tile_apply (i : Fin 8) (j : Fin 128) :
    k0_pay29 (F := Ideal) v3 v4 k0_pay14 (ix2 i j) = ((D.score ⟨i.val * 128 + j.val, by omega⟩ : ℝ) : EReal) := by
  pointwise [k0_pay29]
  exact score_apply _ R

/-- The block's largest score is some real number. -/
theorem peak_real : ∃ M : ℝ, k0_pay30 (F := Ideal) v3 v4 k0_pay14 = (M : EReal) := by
  pointwise [k0_pay30]
  simp only [bits_bot, tile_apply R]
  obtain ⟨M, hM, -⟩ := fold_max_real fun x : Fin 8 × Fin 128 => D.score ⟨x.1.val * 128 + x.2.val, by omega⟩
  exact ⟨M, hM⟩

/-- The block's sum of exponentials about its largest score. -/
theorem bulk_apply {M : ℝ} (h : k0_pay30 (F := Ideal) v3 v4 k0_pay14 = (M : EReal)) :
    k0_pay31 (F := Ideal) v3 v4 k0_pay14 = ((∑ k, Real.exp (D.score k - M) : ℝ) : EReal) := by
  unfold k0_pay31
  rw [h]
  generalize hT : k0_pay29 (F := Ideal) v3 v4 k0_pay14 = T
  pointwise
  subst hT
  rw [sum_eq_coe (f := fun i : Fin 8 => ∑ j : Fin 128, Real.exp (D.score ⟨i.val * 128 + j.val, by omega⟩ - M)) fun i =>
    sum_eq_coe fun j => by rw [tile_apply R, ← EReal.coe_sub, Ideal.exp_coe]]
  refine congrArg _ ?_
  exact sum_blocks (A := 8) (S := 128) (by norm_num) fun k => Real.exp (D.score k - M)

/-- The blocks' largest scores, one in each lane. -/
theorem macc_apply {M : ℝ} (h : k0_pay30 (F := Ideal) v3 v4 k0_pay14 = (M : EReal)) {w : Vec Ideal S1x128 .f32} {a : ℝ}
    (t : Fin 4) (j : Fin 128) (hw : w (ix2 0 j) = (a : EReal)) :
    k0_pay32 (F := Ideal) (BitVec.ofNat 32 t.val) v3 v4 k0_pay14 w (ix2 0 j) = ((a + (if j.val = t.val then M else 0) : ℝ) : EReal) := by
  pointwise [k0_pay32]
  rw [h, hw, cmp_eq_bit]
  have := word_eq (n := 128) (by norm_num) j (t.castLE (by norm_num))
  simp only [Fin.val_castLE] at this
  simp only [this, Fin.ext_iff, Fin.val_castLE]
  by_cases e : j.val = t.val
  · simp only [e, decide_true, if_true]; exact (EReal.coe_add _ _).symm
  · simp only [e, decide_false, if_false]; exact (EReal.coe_add _ _).symm

omit R in
/-- The blocks' sums of exponentials, one in each lane. -/
theorem zacc_apply (Z : ℝ) {w : Vec Ideal S1x128 .f32} {a : ℝ}
    (t : Fin 4) (j : Fin 128) (hw : w (ix2 0 j) = (a : EReal)) :
    k0_pay1 (F := Ideal) (Z : EReal) w (k0_pay33 (BitVec.ofNat 32 t.val)) (ix2 0 j) = ((a + (if j.val = t.val then Z else 0) : ℝ) : EReal) := by
  pointwise [k0_pay1, k0_pay33]
  rw [hw, cmp_eq_bit]
  have := word_eq (n := 128) (by norm_num) j (t.castLE (by norm_num))
  simp only [Fin.val_castLE] at this
  simp only [this, Fin.ext_iff, Fin.val_castLE]
  by_cases e : j.val = t.val
  · simp only [e, decide_true, if_true]; exact (EReal.coe_add _ _).symm
  · simp only [e, decide_false, if_false]; exact (EReal.coe_add _ _).symm

omit R in
/-- The class vectors divided by their lengths. -/
theorem unit_apply (v : Vec Ideal S100x512 .f32) {g : Fin 100 → Fin 512 → ℝ} (hg : ∀ c, IsRow (fun e => v (ix2 c e)) (g c)) (e : Fin 512) :
    k0_pay3 (F := Ideal) v (ix2 c e) = ((g c e : ℝ) : EReal) := by
  pointwise [k0_pay3]
  exact (hg c).mul e

omit R in
theorem lane_lt : ∀ j : Fin 128, IntOp.cmpi CmpIPredicate.slt (BitVec.ofNat 32 j.val) 4#32 = BitVec.ofBool (decide (j.val < 4)) := by
  decide

omit R in
theorem select_bit {α : Type} (p : Prop) [Decidable p] (x y : α) :
    Scalar.select (BitVec.ofBool (decide p)) x y = if p then x else y := by
  by_cases h : p <;> simp [Scalar.select, h]

omit R in
/-- The divergence from what the kernel has kept: `m` and `z` the blocks' largest scores and sums of exponentials, `n` how
    often each example occurs, `e` the scores' sums by example. -/
theorem kl_apply {a : IVec S1x128 32} {b z' : Vec Ideal S1x128 .f32} {d : Vec Ideal S100x1 .f32} {n' e' : Vec Ideal S1x100 .f32}
    {m z : Fin 4 → ℝ} {u n e : Fin 100 → ℝ}
    (ha : ∀ j : Fin 128, a (ix2 0 j) = BitVec.ofNat 32 j.val)
    (hb : ∀ t : Fin 4, b (ix2 0 (t.castLE (by norm_num))) = ((m t : ℝ) : EReal))
    (hz : ∀ t : Fin 4, z' (ix2 0 (t.castLE (by norm_num))) = ((z t : ℝ) : EReal))
    (hd : ∀ c, d (ix2 c 0) = ((u c : ℝ) : EReal)) (hn : ∀ c, n' (ix2 0 c) = ((n c : ℝ) : EReal))
    (he : ∀ c, e' (ix2 0 c) = ((e c : ℝ) : EReal)) (hpos : ∀ t, 0 < z t) (hsum : 0 < ∑ c, n c * Real.exp (-u c)) :
    ∃ M : ℝ, k0_pay10 (F := Ideal) a b z' d n' n' e' (ix2 0 0) =
      (((∑ c, n c * (Real.exp (-u c) * -u c)) / (∑ c, n c * Real.exp (-u c)) - Real.log (∑ c, n c * Real.exp (-u c))
        - (∑ c, e c * Real.exp (-u c)) / (∑ c, n c * Real.exp (-u c))
        + (M + Real.log (∑ t, z t * Real.exp (m t - M))) : ℝ) : EReal) := by
  obtain ⟨q, hq⟩ := bits_fill
  have hneg : ∀ c, (0 : EReal) - d (ix2 c 0) = ((-u c : ℝ) : EReal) := fun c => by
    rw [hd, ← EReal.coe_zero, ← EReal.coe_sub, zero_sub]
  have hexp : ∀ c, Ideal.exp ((0 : EReal) - d (ix2 c 0)) = ((Real.exp (-u c) : ℝ) : EReal) := fun c => by
    rw [hneg, Ideal.exp_coe]
  have hlane : ∀ (j : Fin 128) (h : j.val < 4), j = (⟨j.val, h⟩ : Fin 4).castLE (by norm_num) := fun j h => rfl
  obtain ⟨M, hM, -⟩ := fold_max_real fun j : Fin 128 => if h : j.val < 4 then m ⟨j.val, h⟩ else q
  have hmax : (Finset.fold max (Ideal.ofBits FTy.f32 4286578688#32)
          (fun x => Scalar.select (IntOp.cmpi CmpIPredicate.slt (a (ix2 0 x)) 4#32) (b (ix2 0 x)) (Ideal.ofBits FTy.f32 4284592614#32))
          Finset.univ) = (M : EReal) := by
    rw [bits_bot, ← hM]
    refine congrArg (fun f => Finset.fold max ⊥ f Finset.univ) (funext fun j => ?_)
    rw [ha, lane_lt, select_bit, hq]
    by_cases h : j.val < 4
    · rw [if_pos h, dif_pos h]; exact hb ⟨j.val, h⟩
    · rw [if_neg h, dif_neg h]
  refine ⟨M, ?_⟩
  pointwise [k0_pay10]
  simp only [hmax]
  have hlanes : (∑ x : Fin 128, Scalar.select (IntOp.cmpi CmpIPredicate.slt (a (ix2 0 x)) 4#32) (z' (ix2 0 x) * Ideal.exp (b (ix2 0 x) - (M : EReal))) 0)
      = ((∑ t, z t * Real.exp (m t - M) : ℝ) : EReal) := by
    have hs : (∑ j : Fin 128, if h : j.val < 4 then z ⟨j.val, h⟩ * Real.exp (m ⟨j.val, h⟩ - M) else 0) = ∑ t, z t * Real.exp (m t - M) := by
      rw [show (128 : ℕ) = 4 + 124 from rfl, Fin.sum_univ_add]
      simp
    rw [← hs]
    refine sum_eq_coe fun j => ?_
    rw [ha, lane_lt, select_bit]
    by_cases h : j.val < 4
    · rw [if_pos h, dif_pos h]
      have h1 := hb ⟨j.val, h⟩
      have h2 := hz ⟨j.val, h⟩
      rw [← hlane j h] at h1 h2
      rw [h1, h2, ← EReal.coe_sub, Ideal.exp_coe, ← EReal.coe_mul]
    · rw [if_neg h, dif_neg h]; rfl
  have hZ : 0 < ∑ t, z t * Real.exp (m t - M) := Finset.sum_pos (fun t _ => mul_pos (hpos t) (Real.exp_pos _)) Finset.univ_nonempty
  have h2 : ∑ c, n' (ix2 0 c) * Ideal.exp (0 - d (ix2 c 0)) = ((∑ c, n c * Real.exp (-u c) : ℝ) : EReal) :=
    sum_eq_coe fun c => by rw [hn, hexp, ← EReal.coe_mul]
  have h3 : ∑ c, n' (ix2 0 c) * (Ideal.exp (0 - d (ix2 c 0)) * (0 - d (ix2 c 0))) = ((∑ c, n c * (Real.exp (-u c) * -u c) : ℝ) : EReal) :=
    sum_eq_coe fun c => by rw [hn, hexp, hneg, ← EReal.coe_mul, ← EReal.coe_mul]
  have h4 : ∑ c, e' (ix2 0 c) * Ideal.exp (0 - d (ix2 c 0)) = ((∑ c, e c * Real.exp (-u c) : ℝ) : EReal) :=
    sum_eq_coe fun c => by rw [he, hexp, ← EReal.coe_mul]
  rw [hlanes, log_real hZ, h2, h3, h4,
    div_real _ hsum.ne', div_real _ hsum.ne', log_real hsum, ← EReal.coe_sub, ← EReal.coe_sub, ← EReal.coe_add, ← EReal.coe_add]

omit R in
/-- The loss from its parts. -/
theorem loss_apply {p : FVec Ideal S1x1 .f32} {a x y : Vec Ideal S1x100 .f32} {kl : ℝ} {a' x' y' : Fin 100 → ℝ}
    (hp : p (ix2 0 0) = (kl : EReal)) (ha : ∀ c, a (ix2 0 c) = ((a' c : ℝ) : EReal)) (hx : ∀ c, x (ix2 0 c) = ((x' c : ℝ) : EReal))
    (hy : ∀ c, y (ix2 0 c) = ((y' c : ℝ) : EReal)) :
    k0_pay2 (F := Ideal) p (Scalar.ofBits .f32 0x45800000#32) a x y (ix2 0 0) =
      (((0 - ∑ c, x' c + ∑ c, y' c) / 4096 + kl / 4096 + (0 - ∑ c, Real.log (min 1 (max eps (a' c / 4096)))) / 100 : ℝ) : EReal) := by
  pointwise [k0_pay2]
  have h1 : (∑ c, Ideal.log (min 1 (max (Ideal.ofBits FTy.f32 953267991#32) (Ideal.div (a (ix2 0 c)) (Ideal.ofBits FTy.f32 1166016512#32)))))
      = ((∑ c, Real.log (min 1 (max eps (a' c / 4096))) : ℝ) : EReal) := sum_eq_coe fun c => by
    rw [ha, bits_eps, bits_batch, div_real _ (by norm_num), max_coe, ← EReal.coe_one, min_coe, log_real (clip_pos _)]
  rw [hp, sum_eq_coe hx, sum_eq_coe hy, h1, bits_batch, bits_classes, ← EReal.coe_zero, ← EReal.coe_sub, ← EReal.coe_sub, ← EReal.coe_add,
    div_real _ (by norm_num), div_real _ (by norm_num), div_real _ (by norm_num), ← EReal.coe_add, ← EReal.coe_add]

end NcodLoss
-- ==== Proof.Value.lean ====
/-
  The kernel's result as a real number.
-/
module

public import proofs.«01_k».proof.Proof.Block
public import proofs.«01_k».proof.Proof.Pays

@[expose] public section

set_option maxRecDepth 16384

noncomputable section
open scoped BigOperators
namespace NcodLoss
open Idealize.ShloMosaic Cert.KernelIdeal Cert.KernelIdeal.Gen Idealize.ShloMosaic.TcCoe

variable (m : (ℓ : Loc nD τ sig) → Buf (Elt Ideal) ℓ) (c : Dev nD)

/-- The kernel's arguments hold the real quantities `D`. -/
abbrev Holds (D : Rows 4096) : Prop :=
  Data D (fun b => m ((c.tc : Thread nD τ).loc main_arg0) (ix1 b)) (fun b x => m ((c.tc : Thread nD τ).loc main_arg1) (ix2 b x))
    (fun b x => m ((c.tc : Thread nD τ).loc main_arg2) (ix2 b x)) (fun b e => m ((c.tc : Thread nD τ).loc main_arg3) (ix2 b e))
    (fun x => m ((c.tc : Thread nD τ).loc main_arg7) (ix2 x 0)) (fun x e => m ((c.tc : Thread nD τ).loc main_arg8) (ix2 x e))
    (fun x => m ((c.tc : Thread nD τ).loc main_arg9) (ix2 x 0)) (fun x => m ((c.tc : Thread nD τ).loc main_arg10) (ix1 x))

variable {m c} {D : Rows 4096} (H : Holds m c D)

/-- The grid's point of block `t`. -/
abbrev point (t : Fin 4) : Fin cfg0.N := pt t.val t.isLt

/-- The largest score of block `t`. -/
abbrev Peak (M : Fin 4 → ℝ) : Prop :=
  ∀ t, k0_pay30 (F := Ideal) (iblk m c 1 (point t)) (iblk m c 2 (point t)) k0_pay14 = ((M t : ℝ) : EReal)

/-- What is kept after `n` blocks, as real numbers. -/
structure Kept (D : Rows 4096) (M : Fin 4 → ℝ) (n : ℕ) (s : State) : Prop where
  mv : ∀ x e, s.1 (ix2 x e) = ((D.g x e : ℝ) : EReal)
  macc : ∀ t : Fin 4, s.2.1 (ix2 0 (t.castLE (by norm_num))) = ((if t.val < n then M t else 0 : ℝ) : EReal)
  zacc : ∀ t : Fin 4, s.2.2.1 (ix2 0 (t.castLE (by norm_num)))
    = ((if t.val < n then ∑ k, Real.exp ((D.block t).score k - M t) else 0 : ℝ) : EReal)
  xent : ∀ x, s.2.2.2.1 (ix2 0 x) = ((part n fun t => ∑ k, (D.block t).sim k x * Real.log ((D.block t).pred k x) : ℝ) : EReal)
  gap : ∀ x, s.2.2.2.2.1 (ix2 0 x) = ((part n fun t => ∑ k, (D.block t).gap k x * (D.block t).gap k x : ℝ) : EReal)
  avg : ∀ x, s.2.2.2.2.2.1 (ix2 0 x) = ((part n fun t => ∑ k, (D.block t).pred k x : ℝ) : EReal)
  cnt : ∀ x, s.2.2.2.2.2.2.1 (ix2 0 x) = ((part n fun t => ∑ k, (if (D.block t).ix k = x then 1 else 0) : ℝ) : EReal)
  se : ∀ x, s.2.2.2.2.2.2.2 (ix2 0 x) = ((part n fun t => ∑ k, (if (D.block t).ix k = x then (D.block t).score k else 0) : ℝ) : EReal)

include H in
theorem reads (t : Fin 4) {v : Vec Ideal S100x512 .f32} (hv : ∀ x e, v (ix2 x e) = ((D.g x e : ℝ) : EReal)) :
    Reads (D.block t) (iblk m c 1 (point t)) (iblk m c 2 (point t)) (iblk m c 3 (point t)) (iblk m c 0 (point t)) (iblk m c 4 (point t)) v where
  o k x := (outputs_block m c (point t) k x).trans (H.o _ x)
  l k x := (label_block m c (point t) k x).trans (H.l _ x)
  r k := by
    have h : (fun e => (iblk m c 3 (point t) : Vec Ideal S1024x512 .f32) (ix2 k e)) = fun e => m ((c.tc : Thread nD τ).loc main_arg3) (ix2 (rowAt (point t) k) e) :=
      funext fun e => features_block m c (point t) k e
    rw [h]; exact H.r _
  i k := (index_block m c (point t) k).trans (H.i _)
  u x := (u_block m c (point t) x).trans (H.u x)
  g := hv
  top k x := H.top _ x
  only k x := H.only _ x

include H in
theorem peak_exists : ∃ M : Fin 4 → ℝ, Peak (m := m) (c := c) M := by
  have h : ∀ t : Fin 4, ∃ M : ℝ, k0_pay30 (F := Ideal) (iblk m c 1 (point t)) (iblk m c 2 (point t)) k0_pay14 = (M : EReal) := fun t =>
    peak_real (reads H t (v := fun i => ((D.g (i 0) (i 1) : ℝ) : EReal)) fun _ _ => rfl)
  choose M hM using h
  exact ⟨M, hM⟩

include H in
theorem start_keeps (M : Fin 4 → ℝ) : Kept D M 0 (start (iblk m c 5 (pt 0))) where
  mv x e := unit_apply _ _ (g := D.g) (fun x => by
    have h : (fun e => (iblk m c 5 (pt 0) : Vec Ideal S100x512 .f32) (ix2 x e)) = fun e => m ((c.tc : Thread nD τ).loc main_arg8) (ix2 x e) :=
      funext fun e => class_block m c (pt 0) x e
    rw [h]; exact H.g x) e
  macc t := by simp only [start]; pointwise [k0_pay4]; simp
  zacc t := by simp only [start]; pointwise [k0_pay5]; simp
  xent x := by simp only [start, part_zero]; pointwise [k0_pay6]; rfl
  gap x := by simp only [start, part_zero]; pointwise [k0_pay7]; rfl
  avg x := by simp only [start, part_zero]; pointwise [k0_pay8]; rfl
  cnt x := by simp only [start, part_zero]; pointwise [k0_pay11, k0_pay9]; rfl
  se x := by simp only [start, part_zero]; pointwise [k0_pay12]; rfl

theorem lane_step (t t' : Fin 4) (M : Fin 4 → ℝ) :
    (if t'.val < t.val then M t' else 0) + (if t'.val = t.val then M t else 0) = if t'.val < t.val + 1 then M t' else 0 := by
  rcases lt_trichotomy t'.val t.val with h | h | h
  · rw [if_pos h, if_neg h.ne, if_pos (by omega), add_zero]
  · rw [if_neg (by omega), if_pos h, if_pos (by omega), zero_add, Fin.ext h]
  · rw [if_neg (by omega), if_neg h.ne', if_neg (by omega), add_zero]

include H in
theorem step_keeps {M : Fin 4 → ℝ} (hM : Peak (m := m) (c := c) M) (t : Fin 4) {s : State} (K : Kept D M t.val s) :
    Kept D M (t.val + 1) (stepAt m c (point t) s) := by
  have R := reads H t K.mv
  exact
  { mv := K.mv
    macc := fun t' => (macc_apply R (hM t) t _ (K.macc t')).trans (congrArg _ (lane_step t t' M))
    zacc := fun t' => by
      have h := zacc_apply (∑ k, Real.exp ((D.block t).score k - M t)) t _ (K.zacc t')
      rw [← bulk_apply R (hM t)] at h
      exact h.trans (congrArg _ (lane_step t t' fun t => ∑ k, Real.exp ((D.block t).score k - M t)))
    xent := fun x => by rw [part_succ]; exact xent_apply x R (K.xent x)
    gap := fun x => by rw [part_succ]; exact gap_apply x R (K.gap x)
    avg := fun x => by rw [part_succ]; exact avg_apply x R (K.avg x)
    cnt := fun x => by rw [part_succ]; exact cnt_apply x R (K.cnt x)
    se := fun x => by rw [part_succ]; exact se_apply x R (K.se x) }

include H in
/-- The kernel's result is the loss. -/
theorem kernel_value : finish (iblk m c 4 (pt 3)) (total m c) (ix2 0 0) = ((D.loss : ℝ) : EReal) := by
  obtain ⟨M, hM⟩ := peak_exists H
  have K : Kept D M 4 (total m c) :=
    step_keeps H hM 3 (step_keeps H hM 2 (step_keeps H hM 1 (step_keeps H hM 0 (start_keeps H M))))
  generalize total m c = s at K
  have hx : ∀ x, s.2.2.2.1 (ix2 0 x) = ((∑ b, D.sim b x * Real.log (D.pred b x) : ℝ) : EReal) := fun x =>
    (K.xent x).trans (congrArg _ (part_all fun b => D.sim b x * Real.log (D.pred b x)))
  have hy : ∀ x, s.2.2.2.2.1 (ix2 0 x) = ((∑ b, D.gap b x * D.gap b x : ℝ) : EReal) := fun x =>
    (K.gap x).trans (congrArg _ (part_all fun b => D.gap b x * D.gap b x))
  have ha : ∀ x, s.2.2.2.2.2.1 (ix2 0 x) = ((∑ b, D.pred b x : ℝ) : EReal) := fun x =>
    (K.avg x).trans (congrArg _ (part_all fun b => D.pred b x))
  have hn : ∀ x, s.2.2.2.2.2.2.1 (ix2 0 x) = ((∑ b, (if D.ix b = x then 1 else 0) : ℝ) : EReal) := fun x =>
    (K.cnt x).trans (congrArg _ (part_all fun b => if D.ix b = x then 1 else 0))
  have he : ∀ x, s.2.2.2.2.2.2.2 (ix2 0 x) = ((∑ b, (if D.ix b = x then D.score b else 0) : ℝ) : EReal) := fun x =>
    (K.se x).trans (congrArg _ (part_all fun b => if D.ix b = x then D.score b else 0))
  have hm : ∀ t : Fin 4, s.2.1 (ix2 0 (t.castLE (by norm_num))) = ((M t : ℝ) : EReal) := fun t =>
    (K.macc t).trans (by rw [if_pos t.isLt])
  have hz : ∀ t : Fin 4, s.2.2.1 (ix2 0 (t.castLE (by norm_num))) = ((∑ k, Real.exp ((D.block t).score k - M t) : ℝ) : EReal) := fun t =>
    (K.zacc t).trans (by rw [if_pos t.isLt])
  have e2 : ∑ x, (∑ b, (if D.ix b = x then 1 else 0 : ℝ)) * Real.exp (-D.u x) = ∑ b, Real.exp (-D.u (D.ix b)) := by
    rw [sum_by_class D.ix (fun _ => 1) fun x => Real.exp (-D.u x)]; simp
  have e3 : ∑ x, (∑ b, (if D.ix b = x then 1 else 0 : ℝ)) * (Real.exp (-D.u x) * -D.u x) = ∑ b, Real.exp (-D.u (D.ix b)) * -D.u (D.ix b) := by
    rw [sum_by_class D.ix (fun _ => 1) fun x => Real.exp (-D.u x) * -D.u x]; simp
  have e4 : ∑ x, (∑ b, (if D.ix b = x then D.score b else 0 : ℝ)) * Real.exp (-D.u x) = ∑ b, D.score b * Real.exp (-D.u (D.ix b)) :=
    sum_by_class D.ix D.score fun x => Real.exp (-D.u x)
  have hpos : 0 < ∑ x, (∑ b, (if D.ix b = x then 1 else 0 : ℝ)) * Real.exp (-D.u x) := by
    rw [e2]; exact Finset.sum_pos (fun _ _ => Real.exp_pos _) Finset.univ_nonempty
  obtain ⟨B, hB⟩ := kl_apply (a := iota .tc S1x128 32 [1] iota_S1x128_d1_w32) (fun j => by pointwise) hm hz
    (fun x => (u_block m c (pt 3) x).trans (H.u x)) hn he
    (fun t => Finset.sum_pos (fun _ _ => Real.exp_pos _) Finset.univ_nonempty) hpos
  rw [logsum_blocks (fun t k => (D.block t).score k) M B, e2, e3, e4] at hB
  have hL : (∑ t, ∑ k, Real.exp ((D.block t).score k)) = ∑ b, Real.exp (D.score b) :=
    sum_blocks (A := 4) (S := 1024) (by norm_num) fun b => Real.exp (D.score b)
  rw [hL] at hB
  exact loss_apply hB ha hx hy

end NcodLoss
-- ==== Proof.Ref.lean ====
/-
  The reference's result as a real number.
-/
module

public import proofs.«01_k».proof.Proof.Gen.ReferenceIdeal.Run
public import proofs.«01_k».proof.Proof.Reals
public import Idealize.ShloMosaic.Lib.Pointwise
public import Idealize.ShloMosaic.Lib.Routing.Ops
public import Idealize.ShloMosaic.Lib.Tactic.CleanTypes

@[expose] public section

set_option maxRecDepth 16384

noncomputable section
open scoped BigOperators
namespace NcodLoss
namespace Plain
open Idealize.ShloMosaic Cert.ReferenceIdeal Cert.ReferenceIdeal.Gen Cert.ReferenceIdeal.Value Idealize.ShloMosaic.TcCoe Idealize.SL.Sem Idealize.ShloMosaic.StableHlo

variable {V : Valuation τ sig (Elt Ideal)} {D : Rows 4096}

/-- The reference's arguments hold the real quantities `D`. -/
abbrev Holds (V : Valuation τ sig (Elt Ideal)) (D : Rows 4096) : Prop :=
  Data D (fun b => V (Proc.devRef .tc main_arg0) (ix1 b)) (fun b x => V (Proc.devRef .tc main_arg1) (ix2 b x))
    (fun b x => V (Proc.devRef .tc main_arg2) (ix2 b x)) (fun b e => V (Proc.devRef .tc main_arg3) (ix2 b e))
    (fun x => V (Proc.devRef .tc main_arg7) (ix2 x 0)) (fun x e => V (Proc.devRef .tc main_arg8) (ix2 x e))
    (fun x => V (Proc.devRef .tc main_arg9) (ix2 x 0)) (fun x => V (Proc.devRef .tc main_arg10) (ix1 x))

theorem small_toInt (c : Fin 100) : (BitVec.ofNat 32 c.val).toInt = (c.val : Int) := by
  have := c.isLt
  rw [BitVec.toInt_eq_toNat_of_lt (by rw [BitVec.toNat_ofNat]; omega), BitVec.toNat_ofNat]; omega

theorem lands2 {idx : IVec S100x1 32} (hi : ∀ c : Fin 100, idx (ix2 c 0) = BitVec.ofNat 32 c.val) (j : S100x512.Idx) :
    scatter_S100x512_S100x1_S100x512_1_0_0_1.resultIdx? j idx = some j := by
  obtain ⟨c, e, rfl⟩ : ∃ c e, j = ix2 c e := ⟨j 0, j 1, by funext a; fin_cases a <;> rfl⟩
  have s0 : scatter_S100x512_S100x1_S100x512_1_0_0_1.start (ix2 c e) idx 0 = (c.val : Int) := by
    have h : scatter_S100x512_S100x1_S100x512_1_0_0_1.start (ix2 c e) idx 0 = (idx (ix2 c 0)).toInt := by
      unfold ScatterDims.start
      rw [dif_pos (show (0 : Fin 2) ∈ scatter_S100x512_S100x1_S100x512_1_0_0_1.scatterDimsToOperandDims from List.mem_singleton.mpr rfl)]
      refine congrArg (fun i => (idx i).toInt) ?_
      funext a; fin_cases a <;> rfl
    rw [h, hi, small_toInt]
  have s1 : scatter_S100x512_S100x1_S100x512_1_0_0_1.start (ix2 c e) idx 1 = 0 := rfl
  have w0 : scatter_S100x512_S100x1_S100x512_1_0_0_1.window (ix2 c e) 0 = 0 := rfl
  have w1 : scatter_S100x512_S100x1_S100x512_1_0_0_1.window (ix2 c e) 1 = e.val := rfl
  have hc := c.isLt; have he := e.isLt
  unfold ScatterDims.resultIdx?
  rw [dif_pos (fun a => by
    fin_cases a
    · show 0 ≤ scatter_S100x512_S100x1_S100x512_1_0_0_1.start (ix2 c e) idx 0 + (scatter_S100x512_S100x1_S100x512_1_0_0_1.window (ix2 c e) 0 : Int) ∧ scatter_S100x512_S100x1_S100x512_1_0_0_1.start (ix2 c e) idx 0 + (scatter_S100x512_S100x1_S100x512_1_0_0_1.window (ix2 c e) 0 : Int) < 100
      rw [s0, w0]; omega
    · show 0 ≤ scatter_S100x512_S100x1_S100x512_1_0_0_1.start (ix2 c e) idx 1 + (scatter_S100x512_S100x1_S100x512_1_0_0_1.window (ix2 c e) 1 : Int) ∧ scatter_S100x512_S100x1_S100x512_1_0_0_1.start (ix2 c e) idx 1 + (scatter_S100x512_S100x1_S100x512_1_0_0_1.window (ix2 c e) 1 : Int) < 512
      rw [s1, w1]; omega)]
  refine congrArg some (funext fun a => Fin.ext ?_)
  fin_cases a
  · show (scatter_S100x512_S100x1_S100x512_1_0_0_1.start (ix2 c e) idx 0 + (scatter_S100x512_S100x1_S100x512_1_0_0_1.window (ix2 c e) 0 : Int)).toNat = c.val
    rw [s0, w0]; omega
  · show (scatter_S100x512_S100x1_S100x512_1_0_0_1.start (ix2 c e) idx 1 + (scatter_S100x512_S100x1_S100x512_1_0_0_1.window (ix2 c e) 1 : Int)).toNat = e.val
    rw [s1, w1]; omega

theorem add_rows {idx : IVec S100x1 32} (hi : ∀ c : Fin 100, idx (ix2 c 0) = BitVec.ofNat 32 c.val) (y v : FVec Ideal S100x512 .f32) (i : S100x512.Idx) :
    Host.scatterAdd scatter_S100x512_S100x1_S100x512_1_0_0_1 y idx v i = y i + v i := by
  show y i + ∑ j ∈ Finset.univ.filter (fun j => scatter_S100x512_S100x1_S100x512_1_0_0_1.resultIdx? j idx = some i), v j = _
  simp only [lands2 hi, Option.some.injEq, Finset.filter_eq', Finset.mem_univ, if_true, Finset.sum_singleton]

theorem add_ones {idx : IVec S100x1 32} (hi : ∀ c : Fin 100, idx (ix2 c 0) = BitVec.ofNat 32 c.val) (y v : FVec Ideal S100 .f32) (c : Fin 100) :
    Host.scatterAdd scatter_S100_S100x1_S100_n_0_0_1 y idx v (ix1 c) = y (ix1 c) + v (ix1 c) := by
  have hl : ∀ j : S100.Idx, scatter_S100_S100x1_S100_n_0_0_1.resultIdx? j idx = some (ix1 c) ↔ j = ix1 c := fun j => by
    obtain ⟨k, rfl⟩ : ∃ k, j = ix1 k := ⟨j 0, by funext a; fin_cases a; rfl⟩
    refine (Routing.scatter_lands_signed (N := 100) scatter_S100_S100x1_S100_n_0_0_1 rfl rfl rfl idx k c).trans ?_
    have hk : idx (ValueIdx.ix2 k 0) = BitVec.ofNat 32 k.val := hi k
    rw [hk, small_toInt]
    constructor
    · intro h; rw [Fin.ext (Int.ofNat.inj h)]
    · intro h; rw [show k = c from congrFun h 0]
  show y (ix1 c) + ∑ j ∈ Finset.univ.filter (fun j => scatter_S100_S100x1_S100_n_0_0_1.resultIdx? j idx = some (ix1 c)), v j = _
  simp only [hl, Finset.filter_eq', Finset.mem_univ, if_true, Finset.sum_singleton]

variable (H : Holds V D) (b : Fin 4096) (x : Fin 100) (e : Fin 512)
include H

/-- The gather's start index of a row is its example. -/
theorem start_word : (broadcastInDim S4096x1 ![0] bcast_S4096_S4096x1_0 (select (cmpi .slt (V (Proc.devRef .tc main_arg0)) (broadcastInDim S4096 ![] bcast_S_S4096 (constantI S_ 32 0#32))) (addi (V (Proc.devRef .tc main_arg0)) (broadcastInDim S4096 ![] bcast_S_S4096 (constantI S_ 32 100#32))) (V (Proc.devRef .tc main_arg0))) : IVec S4096x1 32) (ix2 b 0) = BitVec.ofNat 32 (D.ix b).val := by
  clean_types
  pointwise
  have h : (V (Proc.devRef .tc main_arg0) : IVec S4096 32) (ix1 b) = BitVec.ofNat 32 (D.ix b).val := H.i b
  rw [h]
  generalize D.ix b = k
  revert k
  decide

/-- A table gathered at the rows' examples. -/
theorem picked (T : FVec Ideal S100x1 .f32) : Host.gather gather_S100x1_S4096x1_S4096x1_1_0_n_n_0_1_11 T (broadcastInDim S4096x1 ![0] bcast_S4096_S4096x1_0 (select (cmpi .slt (V (Proc.devRef .tc main_arg0)) (broadcastInDim S4096 ![] bcast_S_S4096 (constantI S_ 32 0#32))) (addi (V (Proc.devRef .tc main_arg0)) (broadcastInDim S4096 ![] bcast_S_S4096 (constantI S_ 32 100#32))) (V (Proc.devRef .tc main_arg0)))) (ix2 b 0) = T (ix2 (D.ix b) 0) :=
  Routing.gather_row (nb := 100) (B := 1) (n := 4096) _ rfl rfl rfl rfl rfl _ _ b 0 (D.ix b) (start_word H b) (by norm_num)

theorem v13 : (res_main_v13 V : FVec Ideal S4096x1 .f32) (ix2 b 0) = (0 : EReal) := by
  unfold res_main_v13
  exact (picked H b _).trans (H.w _)

theorem v23 : (res_main_v23 V : FVec Ideal S100x512 .f32) (ix2 x e) = (V (Proc.devRef .tc main_arg8) : FVec Ideal S100x512 .f32) (ix2 x e) := by
  have hi : ∀ c : Fin 100, (broadcastInDim S100x1 ![0] bcast_S100_S100x1_0 (V (Proc.devRef .tc main_arg10)) : IVec S100x1 32) (ix2 c 0) = BitVec.ofNat 32 c.val := fun c => by
    clean_types
    pointwise
    exact H.n c
  unfold res_main_v23
  clean_types
  pointwise
  rw [add_rows hi, add_ones hi]
  pointwise
  unfold Ideal.div
  rw [if_neg one_ne_zero, inv_one, mul_one]

theorem v49 : (res_main_v49 V : FVec Ideal S4096x100 .f32) (ix2 b x) = ((D.u (D.ix b) * D.l b x : ℝ) : EReal) := by
  unfold res_main_v49
  clean_types
  pointwise
  have h : (V (Proc.devRef .tc main_arg2) : FVec Ideal S4096x100 .f32) (ix2 b x) = ((D.l b x : ℝ) : EReal) := H.l b x
  have hu := (picked H b (V (Proc.devRef .tc main_arg7))).trans (H.u _)
  rw [h, hu, EReal.coe_mul]

omit H in
theorem largest_real (f : Fin 4096 → ℝ) : ∃ M : ℝ, max (Ideal.ofBits FTy.f32 4286578688#32)
    (Finset.fold max (Ideal.ofBits FTy.f32 4286578688#32) (fun b => ((f b : ℝ) : EReal)) Finset.univ) = (M : EReal) := by
  obtain ⟨M, hM, -⟩ := fold_max_real f
  exact ⟨M, by rw [bits_bot, hM]; exact max_eq_right bot_le⟩

theorem top_out : Finset.fold max (Ideal.ofBits FTy.f32 4286578688#32) (fun x => (V (Proc.devRef .tc main_arg1) : FVec Ideal S4096x100 .f32) (ix2 b x)) Finset.univ
    = ((D.o b (D.top b) : ℝ) : EReal) := by
  have ho : (fun x => (V (Proc.devRef .tc main_arg1) : FVec Ideal S4096x100 .f32) (ix2 b x)) = fun x => ((D.o b x : ℝ) : EReal) := funext fun x => H.o b x
  rw [ho, bits_bot]
  obtain ⟨M, hM, hle, i, hi⟩ := fold_max_real (D.o b)
  rw [hM]
  exact congrArg _ (le_antisymm (hi ▸ H.top b i) (hle _))

theorem v34 : (res_main_v34 V : FVec Ideal S4096x100 .f32) (ix2 b x) = ((Real.exp (D.o b x - D.o b (D.top b)) : ℝ) : EReal) := by
  unfold res_main_v34
  clean_types
  pointwise
  have ho : (V (Proc.devRef .tc main_arg1) : FVec Ideal S4096x100 .f32) (ix2 b x) = ((D.o b x : ℝ) : EReal) := H.o b x
  rw [top_out H, ho, bits_bot, max_eq_right bot_le, ← EReal.coe_sub, Ideal.exp_coe]

theorem v43 : (res_main_v43 V : FVec Ideal S4096x100 .f32) (ix2 b x) = (((∑ e, D.r b e * D.g x e) * D.l b x : ℝ) : EReal) := by
  unfold res_main_v43
  clean_types
  pointwise
  have hg : ∀ x e, (res_main_v23 V : FVec Ideal S100x512 .f32) (ix2 x e) = (V (Proc.devRef .tc main_arg8) : FVec Ideal S100x512 .f32) (ix2 x e) := v23 H
  have hl : (V (Proc.devRef .tc main_arg2) : FVec Ideal S4096x100 .f32) (ix2 b x) = ((D.l b x : ℝ) : EReal) := H.l b x
  simp only [hg]
  rw [hl, EReal.coe_mul]
  refine congrArg (· * _) (sum_eq_coe fun e => ?_)
  rw [EReal.coe_mul]
  exact congrArg₂ _ ((H.r b).div e) ((H.g x).div e)

omit H in
theorem one_const : (id (constant S_ .f32 1065353216#32) : FVec Ideal S_ .f32) ix0 = ((1 : ℝ) : EReal) := bits_one
omit H in
theorem eps_const : (id (constant S_ .f32 953267991#32) : FVec Ideal S_ .f32) ix0 = ((eps : ℝ) : EReal) := bits_eps

theorem v55 : (res_main_v55 V : FVec Ideal S4096x100 .f32) (ix2 b x) = ((D.pred b x : ℝ) : EReal) := by
  unfold res_main_v55
  clean_types
  pointwise
  have hp : ∀ x, (res_main_v34 V : FVec Ideal S4096x100 .f32) (ix2 b x) = ((Real.exp (D.o b x - D.o b (D.top b)) : ℝ) : EReal) := v34 H b
  have hw : (res_main_v13 V : FVec Ideal S4096x1 .f32) (ix2 b 0) = (0 : EReal) := v13 H b
  have hu : (res_main_v49 V : FVec Ideal S4096x100 .f32) (ix2 b x) = ((D.u (D.ix b) * D.l b x : ℝ) : EReal) := v49 H b x
  simp only [hp]
  have hs : ∑ x, ((Real.exp (D.o b x - D.o b (D.top b)) : ℝ) : EReal) = ((∑ x, Real.exp (D.o b x - D.o b (D.top b)) : ℝ) : EReal) := sum_eq_coe fun _ => rfl
  have hpos : 0 < ∑ x, Real.exp (D.o b x - D.o b (D.top b)) := Finset.sum_pos (fun _ _ => Real.exp_pos _) Finset.univ_nonempty
  rw [hw, hu, hs, div_real _ hpos.ne', sub_zero, one_mul, ← EReal.coe_add]
  refine (congrArg₂ min one_const (congrArg₂ max eps_const rfl)).trans ?_
  rw [max_coe, min_coe]
  have he : Real.exp (D.o b x - D.o b (D.top b)) / ∑ x, Real.exp (D.o b x - D.o b (D.top b)) = Real.exp (D.o b x) / D.mass b := by
    simp only [Real.exp_sub, ← Finset.sum_div]
    exact div_div_div_cancel_right₀ (Real.exp_pos _).ne' _ _
  rw [he]; rfl

omit H in
theorem bit_one : (FloatOps.uitofp FTy.f32 (1#1 : BitVec 1) : Ideal .f32) = ((1 : ℝ) : EReal) := by
  show (((((1#1 : BitVec 1).toNat : ℕ) : ℝ)) : EReal) = _
  norm_num
omit H in
theorem bit_zero : (FloatOps.uitofp FTy.f32 (0#1 : BitVec 1) : Ideal .f32) = ((0 : ℝ) : EReal) := by
  show (((((0#1 : BitVec 1).toNat : ℕ) : ℝ)) : EReal) = _
  norm_num

omit H in
/-- The least of some words is one that is among them and not larger than any. -/
theorem least_word {ι : Type} [Fintype ι] (f : ι → BitVec 32) (v w : BitVec 32) (hv : w.toInt ≤ v.toInt) (hle : ∀ i, w.toInt ≤ (f i).toInt)
    (t : ι) (ht : f t = w) : Finset.fold IntOp.minsi v f Finset.univ = w := by
  classical
  have hlow : ∀ S : Finset ι, w.toInt ≤ (Finset.fold IntOp.minsi v f S).toInt := fun S => by
    induction S using Finset.induction_on with
    | empty => simpa using hv
    | insert a S ha ih =>
      rw [Finset.fold_insert ha]
      unfold IntOp.minsi
      split_ifs
      exacts [hle a, ih]
  rw [← Finset.insert_erase (Finset.mem_univ t), Finset.fold_insert (Finset.notMem_erase t _), ht]
  have := hlow (Finset.univ.erase t)
  generalize Finset.fold IntOp.minsi v f (Finset.univ.erase t) = z at this
  unfold IntOp.minsi
  split_ifs with h
  · rfl
  · have h' : z.toInt ≤ w.toInt := by
      rw [BitVec.slt, decide_eq_true_eq] at h; omega
    exact BitVec.eq_of_toInt_eq (le_antisymm h' this)

theorem v74 : (res_main_v74 V : FVec Ideal S4096x100 .f32) (ix2 b x) = ((D.gap b x : ℝ) : EReal) := by
  unfold res_main_v74
  clean_types
  pointwise
  have ho : ∀ x, (V (Proc.devRef .tc main_arg1) : FVec Ideal S4096x100 .f32) (ix2 b x) = ((D.o b x : ℝ) : EReal) := H.o b
  have hw : (res_main_v13 V : FVec Ideal S4096x1 .f32) (ix2 b 0) = (0 : EReal) := v13 H b
  have hl : (V (Proc.devRef .tc main_arg2) : FVec Ideal S4096x100 .f32) (ix2 b x) = ((D.l b x : ℝ) : EReal) := H.l b x
  rw [top_out H, hw, hl, zero_mul, add_zero]
  simp only [ho, EReal.coe_eq_coe_iff]
  have hi : ∀ x, D.o b x = D.o b (D.top b) ↔ x = D.top b := fun x => ⟨H.only b x, fun h => by rw [h]⟩
  simp only [hi]
  rw [least_word _ _ (BitVec.ofNat 32 (D.top b).val) (by rw [small_toInt]; have := (D.top b).isLt; have h : (2147483647#32).toInt = 2147483647 := rfl; omega) (fun c => by
    split_ifs with h
    · rw [h]
    · have := (D.top b).isLt
      have h : (id (constantI S_ 32 100#32) : IVec S_ 32) ix0 = 100#32 := rfl
      rw [small_toInt]
      show ((D.top b).val : Int) ≤ (100#32).toInt
      have h : (100#32).toInt = 100 := rfl
      omega) (D.top b) (if_pos rfl)]
  have hb : (FloatOps.uitofp FTy.f32 (IntOp.cmpi CmpIPredicate.eq (BitVec.ofNat 32 (D.top b).val) (BitVec.ofNat 32 x.val)) : Ideal .f32)
      = ((if x = D.top b then 1 else 0 : ℝ) : EReal) := by
    generalize D.top b = k
    by_cases h : x = k
    · rw [h, if_pos rfl, show IntOp.cmpi CmpIPredicate.eq (BitVec.ofNat 32 k.val) (BitVec.ofNat 32 k.val) = 1#1 by simp [IntOp.cmpi]]
      exact bit_one
    · have hne : BitVec.ofNat 32 k.val ≠ BitVec.ofNat 32 x.val := fun e => h (by
        have := congrArg BitVec.toInt e
        rw [small_toInt, small_toInt] at this
        exact (Fin.ext (Int.ofNat.inj this)).symm)
      rw [if_neg h, show IntOp.cmpi CmpIPredicate.eq (BitVec.ofNat 32 k.val) (BitVec.ofNat 32 x.val) = 0#1 by
        show BitVec.ofBool (_ == _) = 0#1
        rw [beq_eq_false_iff_ne.2 hne]; rfl]
      exact bit_zero
  rw [hb, ← EReal.coe_sub]
  rfl

theorem v80 : (res_main_v80 V : FVec Ideal S4096 .f32) (ix1 b) = ((D.score b : ℝ) : EReal) := by
  unfold res_main_v80
  clean_types
  pointwise
  refine sum_eq_coe fun x => ?_
  rw [EReal.coe_mul]
  exact congrArg₂ _ (H.o b x) (H.l b x)

theorem v4 : ∃ M : ℝ, ∀ b, (res_main_call5_v4 V : FVec Ideal S4096 .f32) (ix1 b) = ((D.score b - M : ℝ) : EReal) := by
  obtain ⟨M, hM⟩ := largest_real D.score
  refine ⟨M, fun b => ?_⟩
  have hs : ∀ b, (res_main_v80 V : FVec Ideal S4096 .f32) (ix1 b) = ((D.score b : ℝ) : EReal) := v80 H
  unfold res_main_call5_v4
  clean_types
  pointwise
  simp only [hs]
  rw [hM, EReal.coe_sub]

theorem v90 : (res_main_v90 V : FVec Ideal S4096 .f32) (ix1 b) = ((-D.u (D.ix b) : ℝ) : EReal) := by
  unfold res_main_v90
  clean_types
  pointwise
  have hu := (picked H b (V (Proc.devRef .tc main_arg7))).trans (H.u _)
  rw [hu, EReal.coe_neg]

theorem v96 : ∃ M : ℝ, ∀ b, (res_main_v96 V : FVec Ideal S4096 .f32) (ix1 b) = ((Real.exp (-D.u (D.ix b) - M) : ℝ) : EReal) := by
  obtain ⟨M, hM⟩ := largest_real fun b => -D.u (D.ix b)
  refine ⟨M, fun b => ?_⟩
  have hs : ∀ b, (res_main_v90 V : FVec Ideal S4096 .f32) (ix1 b) = ((-D.u (D.ix b) : ℝ) : EReal) := v90 H
  unfold res_main_v96
  clean_types
  pointwise
  simp only [hs]
  rw [hM, ← EReal.coe_sub, Ideal.exp_coe]

theorem v100 : ∃ M : ℝ, ∀ b, (res_main_v100 V : FVec Ideal S4096 .f32) (ix1 b)
    = ((Real.exp (-D.u (D.ix b) - M) / ∑ b, Real.exp (-D.u (D.ix b) - M) : ℝ) : EReal) := by
  obtain ⟨M, hM⟩ := v96 H
  refine ⟨M, fun b => ?_⟩
  unfold res_main_v100
  clean_types
  pointwise
  simp only [hM]
  have hs : ∑ b, ((Real.exp (-D.u (D.ix b) - M) : ℝ) : EReal) = ((∑ b, Real.exp (-D.u (D.ix b) - M) : ℝ) : EReal) := sum_eq_coe fun _ => rfl
  rw [hs, div_real _ (Finset.sum_pos (fun _ _ => Real.exp_pos _) Finset.univ_nonempty).ne']

omit H in
theorem sum_none (X : FVec Ideal S_ .f32) : Ideal.hostReduceAdd reducesTo_S_S_d X 0 ix0 = X ix0 := by
  have : ∀ i j : S_.Idx, i = j := fun i j => funext fun a => a.elim0
  unfold Ideal.hostReduceAdd
  rw [Finset.filter_true_of_mem fun i _ => this _ _, Finset.sum_eq_single ix0 (fun i _ h => absurd (this i ix0) h) (fun h => absurd (Finset.mem_univ _) h)]
  exact zero_add _

omit H in
theorem kept_real (a : ℝ) : (a : EReal) * (FloatOps.uitofp FTy.f32 (BitVec.ofBool (decide (0 < (a : EReal)))) : Ideal .f32)
    = ((max a 0 : ℝ) : EReal) := by
  by_cases h : 0 < a
  · rw [decide_eq_true (EReal.coe_pos.2 h), max_eq_left h.le]
    exact (congrArg _ bit_one).trans (by rw [EReal.coe_one, mul_one])
  · rw [decide_eq_false (fun e => h (EReal.coe_pos.1 e)), max_eq_right (not_lt.1 h)]
    exact (congrArg _ bit_zero).trans (by rw [EReal.coe_zero, mul_zero])

theorem balance : (Host.negf (Host.reduceAdd (mulf (Host.divf (broadcastInDim S100 ![] bcast_S_S100 (constant S_ .f32 0x3F800000#32)) (broadcastInDim S100 ![] bcast_S_S100 (constant S_ .f32 0x42C80000#32))) (Host.log (minimumf (broadcastInDim S100 ![] bcast_S_S100 (id (constant S_ .f32 0x3F800000#32))) (maximumf (broadcastInDim S100 ![] bcast_S_S100 (id (constant S_ .f32 0x38D1B717#32))) (Host.divf (Host.reduceAdd (res_main_v55 V) (constant S_ .f32 0x00000000#32) reducesTo_S4096x100_S100_d0 h_S_) (broadcastInDim S100 ![] bcast_S_S100 (constant S_ .f32 0x45800000#32))))))) (constant S_ .f32 0x00000000#32) reducesTo_S100_S_d0 h_S_) : FVec Ideal S_ .f32) ix0
    = (((0 - ∑ c, Real.log (min 1 (max eps ((∑ b, D.pred b c) / 4096)))) / 100 : ℝ) : EReal) := by
  clean_types
  pointwise
  have hp : ∀ b c, (res_main_v55 V : FVec Ideal S4096x100 .f32) (ix2 b c) = ((D.pred b c : ℝ) : EReal) := v55 H
  simp only [hp]
  have h : ∀ c : Fin 100, (Ideal.div 1 (Ideal.ofBits FTy.f32 1120403456#32) * Ideal.log (min ((id (constant S_ .f32 1065353216#32) : FVec Ideal S_ .f32) ix0) (max ((id (constant S_ .f32 953267991#32) : FVec Ideal S_ .f32) ix0) (Ideal.div (∑ b, ((D.pred b c : ℝ) : EReal)) (Ideal.ofBits FTy.f32 1166016512#32)))) : EReal)
      = ((1 / 100 * Real.log (min 1 (max eps ((∑ b, D.pred b c) / 4096))) : ℝ) : EReal) := fun c => by
    have hs : ∑ b, ((D.pred b c : ℝ) : EReal) = ((∑ b, D.pred b c : ℝ) : EReal) := sum_eq_coe fun _ => rfl
    rw [one_const, eps_const, bits_batch, bits_classes, hs, div_real _ (by norm_num), ← EReal.coe_one, div_real _ (by norm_num), max_coe, min_coe,
      log_real (clip_pos _), EReal.coe_mul]
  rw [sum_eq_coe (f := fun c => 1 / 100 * Real.log (min 1 (max eps ((∑ b, D.pred b c) / 4096)))) h, ← EReal.coe_neg, ← Finset.mul_sum]
  exact congrArg _ (by ring)

/-- The reference's result. -/
theorem value : (addf (addf (addf (Host.divf (Host.reduceAdd (Host.negf (Host.reduceAdd (mulf (mulf (res_main_v43 V) (uitofp .f32 (cmpf .ogt (res_main_v43 V) (broadcastInDim S4096x100 ![] bcast_S_S4096x100 (constant S_ .f32 0x00000000#32))))) (Host.log (res_main_v55 V))) (constant S_ .f32 0x00000000#32) reducesTo_S4096x100_S4096_d1 h_S_)) (constant S_ .f32 0x00000000#32) reducesTo_S4096_S_d0 h_S_) (constant S_ .f32 0x45800000#32)) (Host.divf (Host.reduceAdd (mulf (res_main_v74 V) (res_main_v74 V)) (constant S_ .f32 0x00000000#32) reducesTo_S4096x100_S_d0_1 h_S_) (constant S_ .f32 0x45800000#32))) (Host.divf (Host.reduceAdd (mulf (res_main_v100 V) (subf (Host.log (res_main_v100 V)) (subf (res_main_call5_v4 V) (broadcastInDim S4096 ![0] bcast_S1_S4096_0 (Host.log (broadcastInDim S1 ![] bcast_S_S1 (Host.reduceAdd (Host.exp (res_main_call5_v4 V)) (constant S_ .f32 0x00000000#32) reducesTo_S4096_S_d0 h_S_))))))) (constant S_ .f32 0x00000000#32) reducesTo_S4096_S_d0 h_S_) (constant S_ .f32 0x45800000#32))) (mulf (constant S_ .f32 0x3F800000#32) (Host.divf (Host.reduceAdd (Host.negf (Host.reduceAdd (mulf (Host.divf (broadcastInDim S100 ![] bcast_S_S100 (constant S_ .f32 0x3F800000#32)) (broadcastInDim S100 ![] bcast_S_S100 (constant S_ .f32 0x42C80000#32))) (Host.log (minimumf (broadcastInDim S100 ![] bcast_S_S100 (id (constant S_ .f32 0x3F800000#32))) (maximumf (broadcastInDim S100 ![] bcast_S_S100 (id (constant S_ .f32 0x38D1B717#32))) (Host.divf (Host.reduceAdd (res_main_v55 V) (constant S_ .f32 0x00000000#32) reducesTo_S4096x100_S100_d0 h_S_) (broadcastInDim S100 ![] bcast_S_S100 (constant S_ .f32 0x45800000#32))))))) (constant S_ .f32 0x00000000#32) reducesTo_S100_S_d0 h_S_)) (constant S_ .f32 0x00000000#32) reducesTo_S_S_d h_S_) (constant S_ .f32 0x3F800000#32))) : FVec Ideal S_ .f32) ix0
    = ((D.loss : ℝ) : EReal) := by
  have hb := balance H
  clean_types
  pointwise
  rw [sum_none, hb]
  have h43 : ∀ b x, (res_main_v43 V : FVec Ideal S4096x100 .f32) (ix2 b x) = (((∑ e, D.r b e * D.g x e) * D.l b x : ℝ) : EReal) := v43 H
  have hsim : ∀ b x, max ((∑ e, D.r b e * D.g x e) * D.l b x) 0 = D.sim b x := fun _ _ => rfl
  have hp : ∀ b c, (res_main_v55 V : FVec Ideal S4096x100 .f32) (ix2 b c) = ((D.pred b c : ℝ) : EReal) := v55 H
  have hg : ∀ b c, (res_main_v74 V : FVec Ideal S4096x100 .f32) (ix2 b c) = ((D.gap b c : ℝ) : EReal) := v74 H
  obtain ⟨cs, hs⟩ := v4 H
  obtain ⟨cv, hv⟩ := v100 H
  simp only [h43, kept_real, hsim, hp, hg, hs, hv]
  have e1 : ∀ b, -∑ x, (((D.sim b x : ℝ) : EReal) * Ideal.log ((D.pred b x : ℝ) : EReal)) = ((-∑ x, D.sim b x * Real.log (D.pred b x) : ℝ) : EReal) := fun b => by
    have h : ∑ x, (((D.sim b x : ℝ) : EReal) * Ideal.log ((D.pred b x : ℝ) : EReal)) = ((∑ x, D.sim b x * Real.log (D.pred b x) : ℝ) : EReal) := sum_eq_coe fun x => by
      rw [log_real (D.pred_pos b x), EReal.coe_mul]
    rw [h, EReal.coe_neg]
  have e2 : ∑ b, ∑ x, ((D.gap b x : ℝ) : EReal) * ((D.gap b x : ℝ) : EReal) = ((∑ b, ∑ x, D.gap b x * D.gap b x : ℝ) : EReal) :=
    sum_eq_coe fun b => sum_eq_coe fun x => (EReal.coe_mul _ _).symm
  have e3 : ∑ b, Ideal.exp ((D.score b - cs : ℝ) : EReal) = ((∑ b, Real.exp (D.score b - cs) : ℝ) : EReal) := sum_eq_coe fun b => Ideal.exp_coe _
  have hz : 0 < ∑ b, Real.exp (D.score b - cs) := Finset.sum_pos (fun _ _ => Real.exp_pos _) Finset.univ_nonempty
  have hS : 0 < ∑ b, Real.exp (D.score b) := Finset.sum_pos (fun _ _ => Real.exp_pos _) Finset.univ_nonempty
  have hq : 0 < ∑ b, Real.exp (-D.u (D.ix b) - cv) := Finset.sum_pos (fun _ _ => Real.exp_pos _) Finset.univ_nonempty
  have hl : Real.log (∑ b, Real.exp (D.score b - cs)) = Real.log (∑ b, Real.exp (D.score b)) - cs := by
    simp only [Real.exp_sub, ← Finset.sum_div]
    rw [Real.log_div hS.ne' (Real.exp_pos _).ne', Real.log_exp]
  simp only [e1]
  rw [e2, e3, log_real hz, hl, bits_batch]
  have e4 : ∑ b, ((-∑ x, D.sim b x * Real.log (D.pred b x) : ℝ) : EReal) = ((∑ b, -∑ x, D.sim b x * Real.log (D.pred b x) : ℝ) : EReal) := sum_eq_coe fun _ => rfl
  have e5 : ∑ b, ((Real.exp (-D.u (D.ix b) - cv) / ∑ b, Real.exp (-D.u (D.ix b) - cv) : ℝ) : EReal)
      * (Ideal.log ((Real.exp (-D.u (D.ix b) - cv) / ∑ b, Real.exp (-D.u (D.ix b) - cv) : ℝ) : EReal)
        - (((D.score b - cs : ℝ) : EReal) - ((Real.log (∑ b, Real.exp (D.score b)) - cs : ℝ) : EReal))) = ((D.kl : ℝ) : EReal) := by
    have h : ∀ b, ((Real.exp (-D.u (D.ix b) - cv) / ∑ b, Real.exp (-D.u (D.ix b) - cv) : ℝ) : EReal)
      * (Ideal.log ((Real.exp (-D.u (D.ix b) - cv) / ∑ b, Real.exp (-D.u (D.ix b) - cv) : ℝ) : EReal)
        - (((D.score b - cs : ℝ) : EReal) - ((Real.log (∑ b, Real.exp (D.score b)) - cs : ℝ) : EReal)))
      = (((Real.exp (-D.u (D.ix b) - cv) / ∑ b, Real.exp (-D.u (D.ix b) - cv))
          * (Real.log (Real.exp (-D.u (D.ix b) - cv) / ∑ b, Real.exp (-D.u (D.ix b) - cv)) - (D.score b - cs - (Real.log (∑ b, Real.exp (D.score b)) - cs))) : ℝ) : EReal) := fun b => by
      rw [log_real (div_pos (Real.exp_pos _) hq), ← EReal.coe_sub, ← EReal.coe_sub, ← EReal.coe_mul]
    rw [sum_eq_coe h]
    exact congrArg _ (divergence (fun b => -D.u (D.ix b)) D.score (Real.log (∑ b, Real.exp (D.score b))) cv cs).symm
  rw [e4, e5, div_real _ (by norm_num), div_real _ (by norm_num), div_real _ (by norm_num), ← EReal.coe_one, div_real _ one_ne_zero,
    ← EReal.coe_add, ← EReal.coe_add, ← EReal.coe_add]
  have c1 : ∑ c, ∑ b, D.sim b c * Real.log (D.pred b c) = ∑ b, ∑ c, D.sim b c * Real.log (D.pred b c) := Finset.sum_comm
  have c2 : ∑ c, ∑ b, D.gap b c * D.gap b c = ∑ b, ∑ c, D.gap b c * D.gap b c := Finset.sum_comm
  refine congrArg _ ?_
  unfold Rows.loss
  rw [c1, c2, Finset.sum_neg_distrib]
  ring
end Plain
end NcodLoss
-- ==== Proof.Usable.lean ====
/-
  What the precondition says of the arguments.
-/
module

public import proofs.«01_k».proof.Proof.Gen.Pre_usable
public import proofs.«01_k».proof.Proof.Reals
public import Idealize.ShloMosaic.Lib.Pointwise
public import Idealize.ShloMosaic.Lib.ReduceAll
public import Idealize.ShloMosaic.Lib.IndicatorCount

@[expose] public section

set_option maxRecDepth 16384

noncomputable section
open scoped BigOperators
namespace NcodLoss
open Idealize.ShloMosaic Cert.Pre_usable Cert.Pre_usable.Gen

/-- A value whose magnitude compares below infinity is a real number. -/
theorem finite_real {x : EReal} (h : Ideal.cmp .olt (max x (-x)) (Ideal.ofBits .f32 0x7F800000#32) = 1#1) : ∃ r : ℝ, x = (r : EReal) := by
  have h : max x (-x) < ⊤ := by
    rw [bits_top] at h
    by_contra hn
    have : Ideal.cmp .olt (max x (-x)) ⊤ = 0#1 := by
      show BitVec.ofBool (decide _) = 0#1
      rw [decide_eq_false hn]; rfl
    rw [this] at h
    exact absurd h (by decide)
  obtain ⟨h1, h2⟩ := max_lt_iff.1 h
  induction x with
  | bot => exact absurd h2 (by simp)
  | top => exact absurd h1 (by simp)
  | coe r => exact ⟨r, rfl⟩

/-- An equality bit that is set says the values are equal. -/
theorem eq_of_bit {x y : EReal} (h : Ideal.cmp .oeq x y = 1#1) : x = y := by
  by_contra hn
  have : Ideal.cmp .oeq x y = 0#1 := by
    show BitVec.ofBool (decide _) = 0#1
    rw [decide_eq_false hn]; rfl
  rw [this] at h
  exact absurd h (by decide)

/-- A greater-than bit that is set says so of the values. -/
theorem lt_of_bit {x y : EReal} (h : Ideal.cmp .ogt x y = 1#1) : y < x := by
  by_contra hn
  have : Ideal.cmp .ogt x y = 0#1 := by
    show BitVec.ofBool (decide _) = 0#1
    rw [decide_eq_false hn]; rfl
  rw [this] at h
  exact absurd h (by decide)

/-- A word that lies from 0 to 99 as a signed integer is the word of one of the hundred numbers. -/
theorem range_word {w : BitVec 32} (h0 : (0#32 : BitVec 32).toInt ≤ w.toInt) (h1 : w.toInt < (100#32 : BitVec 32).toInt) : ∃ k : Fin 100, w = BitVec.ofNat 32 k.val := by
  have e0 : (0#32 : BitVec 32).toInt = 0 := rfl
  have e1 : (100#32 : BitVec 32).toInt = 100 := rfl
  rw [e0] at h0; rw [e1] at h1
  refine ⟨⟨w.toInt.toNat, by omega⟩, BitVec.eq_of_toInt_eq ?_⟩
  have : w.toInt.toNat < 100 := by omega
  rw [BitVec.toInt_eq_toNat_of_lt (x := BitVec.ofNat 32 w.toInt.toNat) (by rw [BitVec.toNat_ofNat]; omega), BitVec.toNat_ofNat]
  omega

/-- Arguments that satisfy the precondition hold real quantities `D`. -/
theorem exists_data (a0 : IVec S4096 32) (a1 a2 : FVec Ideal S4096x100 .f32) (a3 : FVec Ideal S4096x512 .f32) (a4 a5 a6 : IVec S_ 32)
    (a7 : FVec Ideal S100x1 .f32) (a8 : FVec Ideal S100x512 .f32) (a9 : FVec Ideal S100x1 .f32) (a10 : IVec S100 32)
    (h : Cert.Pre_usable.fn (F := Ideal) a0 a1 a2 a3 a4 a5 a6 a7 a8 a9 a10 = fun _ => 1#1) :
    ∃ D : Rows 4096, Data D (fun b => a0 (ix1 b)) (fun b x => a1 (ix2 b x)) (fun b x => a2 (ix2 b x)) (fun b e => a3 (ix2 b e))
      (fun x => a7 (ix2 x 0)) (fun x e => a8 (ix2 x e)) (fun x => a9 (ix2 x 0)) (fun x => a10 (ix1 x)) := by
  have : Subsingleton S_.Idx := ⟨fun i j => funext fun a => a.elim0⟩
  have h0 := congrFun h ix0
  simp only [fn, fn_part1, fn_part2, fn_part3, Idealize.ShloMosaic.andi, IntOp.andi_eq_one] at h0
  obtain ⟨⟨⟨⟨⟨hi, ⟨ho, hl⟩, hu⟩, hone⟩, hw⟩, hn⟩, hr, hg⟩ := h0
  have hi := fun b : Fin 4096 => Host.reduce_andi_all _ _ _ _ _ hi (ix1 b)
  have ho := fun (b : Fin 4096) (x : Fin 100) => Host.reduce_andi_all _ _ _ _ _ ho (ix2 b x)
  have hl := fun (b : Fin 4096) (x : Fin 100) => Host.reduce_andi_all _ _ _ _ _ hl (ix2 b x)
  have hu := fun (x : Fin 100) => Host.reduce_andi_all _ _ _ _ _ hu (ix2 x 0)
  have hone := fun b : Fin 4096 => Host.reduce_andi_all _ _ _ _ _ hone (ix1 b)
  have hw := fun (x : Fin 100) => Host.reduce_andi_all _ _ _ _ _ hw (ix2 x 0)
  have hn := fun (x : Fin 100) => Host.reduce_andi_all _ _ _ _ _ hn (ix1 x)
  have hr := fun b : Fin 4096 => Host.reduce_andi_all _ _ _ _ _ hr (ix1 b)
  have hg := fun x : Fin 100 => Host.reduce_andi_all _ _ _ _ _ hg (ix1 x)
  have hi' : ∀ b : Fin 4096, ∃ k : Fin 100, a0 (ix1 b) = BitVec.ofNat 32 k.val := fun b => by
    obtain ⟨h1, h2⟩ := IntOp.andi_eq_one.1 (hi b)
    exact range_word (IntOp.cmpi_sge.1 h1) (IntOp.cmpi_slt.1 h2)
  have ho' : ∀ (b : Fin 4096) (x : Fin 100), ∃ r : ℝ, a1 (ix2 b x) = (r : EReal) := fun b x => finite_real (ho b x)
  have hl' : ∀ (b : Fin 4096) (x : Fin 100), ∃ r : ℝ, a2 (ix2 b x) = (r : EReal) := fun b x => finite_real (hl b x)
  have hu' : ∀ x : Fin 100, ∃ r : ℝ, a7 (ix2 x 0) = (r : EReal) := fun x => finite_real (hu x)
  have hw' : ∀ x : Fin 100, a9 (ix2 x 0) = (0 : EReal) := fun x => (eq_of_bit (hw x)).trans (bits_zero.trans EReal.coe_zero)
  have hn' : ∀ x : Fin 100, a10 (ix1 x) = BitVec.ofNat 32 x.val := fun x => IntOp.cmpi_eq.1 (hn x)
  have hr' : ∀ b : Fin 4096, ∃ r : Fin 512 → ℝ, IsRow (fun e => a3 (ix2 b e)) r := fun b => exists_row _ (by
    have e : Host.reduceAdd (mulf a3 a3) (constant S_ .f32 0x00000000#32) Facts.reducesTo_S4096x512_S4096_d1 Facts.h_S_ (ix1 b) = ∑ e, a3 (ix2 b e) * a3 (ix2 b e) := by pointwise
    have h := lt_of_bit (hr b)
    rw [e] at h
    exact lt_of_eq_of_lt (bits_zero.trans EReal.coe_zero).symm h)
  have hg' : ∀ x : Fin 100, ∃ r : Fin 512 → ℝ, IsRow (fun e => a8 (ix2 x e)) r := fun x => exists_row _ (by
    have e : Host.reduceAdd (mulf a8 a8) (constant S_ .f32 0x00000000#32) Facts.reducesTo_S100x512_S100_d1 Facts.h_S_ (ix1 x) = ∑ e, a8 (ix2 x e) * a8 (ix2 x e) := by pointwise
    have h := lt_of_bit (hg x)
    rw [e] at h
    exact lt_of_eq_of_lt (bits_zero.trans EReal.coe_zero).symm h)
  choose ix hix using hi'
  choose o ho' using ho'
  choose l hl' using hl'
  choose u hu' using hu'
  choose r hr' using hr'
  choose g hg' using hg'
  have htop : ∀ b : Fin 4096, ∃ t : Fin 100, (∀ x, o b x ≤ o b t) ∧ ∀ x, o b x = o b t → x = t := fun b => by
    have h := IntOp.cmpi_eq.1 (hone b)
    have hf : (fun x => a1 (ix2 b x)) = fun x => ((o b x : ℝ) : EReal) := funext fun x => ho' b x
    obtain ⟨M, hM, hle, t, ht⟩ := fold_max_real (o b)
    have e : Host.reduce IntOp.addi (extui 32 (cmpf .oeq a1 (broadcastInDim S4096x100 ![0, 1] Facts.bcast_S4096x1_S4096x100_0_1 (broadcastInDim S4096x1 ![0] Facts.bcast_S4096_S4096x1_0 (Host.reduce FloatOps.maximumf a1 (constant S_ .f32 0xFF800000#32) Facts.reducesTo_S4096x100_S4096_d1 Facts.h_S_)))) Facts.natLt_1_32) (constantI S_ 32 0#32) Facts.reducesTo_S4096x100_S4096_d1 Facts.h_S_ (ix1 b)
        = Finset.univ.fold IntOp.addi (0#32) fun x : Fin 100 => (BitVec.ofBool (decide (o b x = M))).setWidth 32 := by
      pointwise
      rw [hf, bits_bot, hM]
      simp only [ho', EReal.coe_eq_coe_iff]
    have h1 : BitVec.ofNat 32 (Finset.univ.filter fun x : Fin 100 => BitVec.ofBool (decide (o b x = M)) = 1#1).card = 1#32 :=
      (IndicatorCount.fold_addi_setWidth_eq_card _ _).symm.trans (e.symm.trans h)
    have hc : (Finset.univ.filter fun x : Fin 100 => BitVec.ofBool (decide (o b x = M)) = 1#1).card ≤ 100 :=
      (Finset.card_le_univ _).trans (by simp)
    have h2 : (Finset.univ.filter fun x : Fin 100 => BitVec.ofBool (decide (o b x = M)) = 1#1).card = 1 := by
      have := congrArg BitVec.toNat h1
      rw [BitVec.toNat_ofNat, Nat.mod_eq_of_lt (by omega)] at this
      exact this
    obtain ⟨y, hy⟩ := Finset.card_eq_one.1 h2
    have hmem : ∀ x, o b x = M → x = y := fun x hx => by
      have : x ∈ ({y} : Finset (Fin 100)) := hy ▸ Finset.mem_filter.2 ⟨Finset.mem_univ _, by rw [decide_eq_true hx]; rfl⟩
      exact Finset.mem_singleton.1 this
    exact ⟨t, fun x => (hle x).trans_eq ht.symm, fun x hx => (hmem x (hx.trans ht)).trans (hmem t ht).symm⟩
  choose top htop honly using htop
  exact ⟨⟨o, l, r, g, u, ix, top⟩, ho', hl', hr', hix, hu', hg', hw', hn', htop, honly⟩
end NcodLoss
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_usable
public import proofs.«01_k».proof.Proof.Value
public import proofs.«01_k».proof.Proof.Ref
public import proofs.«01_k».proof.Proof.Usable
public import Idealize.ShloMosaic.Adequacy
public import Idealize.ShloMosaic.Init
public import Idealize.ShloMosaic.Lib.Quiescent

@[expose] public section

noncomputable section

namespace Cert.Proof

open Idealize.ShloMosaic Idealize.ShloMosaic.StableHlo Idealize.SL.Sem Idealize.ShloMosaic.TcCoe NcodLoss

/-- The reference keeps its arguments and, having no semaphore, ends with every counter at zero. -/
theorem reference_frame : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From equal usable arguments both programs end with the real loss of those arguments. -/
theorem same_loss [hk : Cert.KernelIdeal.Facts] [hr : Cert.ReferenceIdeal.Facts] [hp : Cert.Pre_usable.Facts] : algebraic_KernelIdeal_ReferenceIdeal_pre_usable := by
  intro m g m' g' hpre hargs
  have hD : ∀ c : Dev Cert.KernelIdeal.nD, ∃ D : Rows 4096, Holds m c D := fun c => exists_data _ _ _ _ _ _ _ _ _ _ _ (hpre c)
  choose D hD using hD
  refine ⟨fun c _ => ((D c).loss : EReal), ?_, ?_⟩
  · exact (θ_run _ _ _).mono (fun r h c => ⟨(h c).1.trans (funext fun _ => kernel_value (hD c)), (h c).2⟩) (kernel_run m g)
  · refine (θ_run _ _ _).mono (fun r h c => ⟨(h c).1.trans ?_, (h c).2⟩) (Cert.ReferenceIdeal.Value.run (F := Ideal) m' g')
    have hV : Plain.Holds (launchContents m' c) (D c) := by
      obtain ⟨h0, h1, h2, h3, -, -, -, h7, h8, h9, h10⟩ := hargs c
      have d := hD c
      exact ⟨fun b x => (congrFun h1 (ix2 b x)).trans (d.o b x), fun b x => (congrFun h2 (ix2 b x)).trans (d.l b x),
        fun b => (congrArg (fun a : FVec Ideal Cert.ReferenceIdeal.S4096x512 .f32 => IsRow (fun e => a (ix2 b e)) ((D c).r b)) h3).mpr (d.r b),
        fun b => (congrFun h0 (ix1 b)).trans (d.i b), fun x => (congrFun h7 (ix2 x 0)).trans (d.u x),
        fun x => (congrArg (fun a : FVec Ideal Cert.ReferenceIdeal.S100x512 .f32 => IsRow (fun e => a (ix2 x e)) ((D c).g x)) h8).mpr (d.g x),
        fun x => (congrFun h9 (ix2 x 0)).trans (d.w x), fun x => (congrFun h10 (ix1 x)).trans (d.n x), d.top, d.only⟩
    funext j
    obtain rfl : j = ix0 := funext fun a => a.elim0
    exact Plain.value hV

/-- The five claims of the certificate. -/
theorem claim : Cert.Claim := ⟨Cert.Kernel.Gen.facts, Cert.KernelIdeal.Gen.facts, Cert.ReferenceIdeal.Gen.facts, Cert.Pre_usable.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, same_loss⟩

end Cert.Proof

end
